-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v62) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S24x2048x2560 : Shape := ⟨3, ![24, 2048, 2560]⟩
abbrev S2560 : Shape := ⟨1, ![2560]⟩
abbrev S16 : Shape := ⟨1, ![16]⟩
abbrev S_ : Shape := ⟨0, ![]⟩

class Facts : Prop where
  reducesTo_S16_S_d0 : S16.ReducesTo [0] S_
  h_S_ : 0 < S_.numel

variable [Facts]

def fn {F : FTy → Type} [FloatOps F] (main_arg0 : FVec F S24x2048x2560 .bf16) (main_arg1 : FVec F S2560 .f32) (main_arg2 : FVec F S2560 .f32) (main_arg3 : FVec F S16 .f32) : IVec S_ 1 :=
  let main_cst : FVec F S_ .f32 := constant S_ .f32 0xFF800000#32
  let main_v0 : FVec F S_ .f32 := (fun x v => Host.reduce FloatOps.maximumf x v reducesTo_S16_S_d0 h_S_) main_arg3 main_cst
  let main_cst_0 : FVec F S_ .f32 := constant S_ .f32 0x3B124925#32
  let main_v1 : FVec F S_ .f32 := mulf main_v0 main_cst_0
  let main_v2 : FVec F S_ .f32 := Host.absf main_v1
  let main_cst_1 : FVec F S_ .f32 := constant S_ .f32 0x00000000#32
  let main_v3 : IVec S_ 1 := cmpf .oeq main_v0 main_cst_1
  let main_cst_2 : FVec F S_ .f32 := constant S_ .f32 0x00400000#32
  let main_v4 : IVec S_ 1 := cmpf .oge main_v2 main_cst_2
  let main_cst_3 : FVec F S_ .f32 := constant S_ .f32 0x7E800000#32
  let main_v5 : IVec S_ 1 := cmpf .olt main_v2 main_cst_3
  let main_v6 : IVec S_ 1 := andi main_v4 main_v5
  let main_v7 : IVec S_ 1 := ori main_v3 main_v6
  main_v7
-- ==== Kernel.lean ====
abbrev S24x2048x2560 : Shape := ⟨3, ![24, 2048, 2560]⟩
abbrev S2560 : Shape := ⟨1, ![2560]⟩
abbrev S16 : Shape := ⟨1, ![16]⟩
abbrev S49152x2560 : Shape := ⟨2, ![49152, 2560]⟩
abbrev S1x2560 : Shape := ⟨2, ![1, 2560]⟩
abbrev S1x16 : Shape := ⟨2, ![1, 16]⟩
abbrev S2560x49152 : Shape := ⟨2, ![2560, 49152]⟩
abbrev S1x1 : Shape := ⟨2, ![1, 1]⟩
abbrev S96x4x128 : Shape := ⟨3, ![96, 4, 128]⟩
abbrev S512x2560 : Shape := ⟨2, ![512, 2560]⟩
abbrev S2560x512 : Shape := ⟨2, ![2560, 512]⟩
abbrev S1x4x128 : Shape := ⟨3, ![1, 4, 128]⟩
abbrev S8x2560 : Shape := ⟨2, ![8, 2560]⟩
abbrev S1x1x16 : Shape := ⟨3, ![1, 1, 16]⟩
abbrev S1 : Shape := ⟨1, ![1]⟩
abbrev S1x1x1 : Shape := ⟨3, ![1, 1, 1]⟩
abbrev S128x2560 : Shape := ⟨2, ![128, 2560]⟩
abbrev S128 : Shape := ⟨1, ![128]⟩
abbrev S128x1 : Shape := ⟨2, ![128, 1]⟩
abbrev S16x8x2560 : Shape := ⟨3, ![16, 8, 2560]⟩
abbrev S2560x128 : Shape := ⟨2, ![2560, 128]⟩
abbrev S1x128 : Shape := ⟨2, ![1, 128]⟩
abbrev S1x1x128 : Shape := ⟨3, ![1, 1, 128]⟩
abbrev S1x8x2560 : Shape := ⟨3, ![1, 8, 2560]⟩

abbrev nBuf : Space → Nat
  | .hbm => 14
  | .vmem => 18
  | .smem => 0
  | _ => 0

abbrev bufTy : (tb : Table) → Fin (tcTables nBuf tb) → BufTy
  | .hbm, ⟨0, _⟩ => ⟨S24x2048x2560, .bf16⟩
  | .hbm, ⟨1, _⟩ => ⟨S2560, .f32⟩
  | .hbm, ⟨2, _⟩ => ⟨S2560, .f32⟩
  | .hbm, ⟨3, _⟩ => ⟨S16, .f32⟩
  | .hbm, ⟨4, _⟩ => ⟨S49152x2560, .bf16⟩
  | .hbm, ⟨5, _⟩ => ⟨S1x2560, .f32⟩
  | .hbm, ⟨6, _⟩ => ⟨S1x2560, .f32⟩
  | .hbm, ⟨7, _⟩ => ⟨S1x16, .f32⟩
  | .hbm, ⟨8, _⟩ => ⟨S49152x2560, .fp8e4m3⟩
  | .hbm, ⟨9, _⟩ => ⟨S2560x49152, .fp8e4m3⟩
  | .hbm, ⟨10, _⟩ => ⟨S1x1, .f32⟩
  | .hbm, ⟨11, _⟩ => ⟨S1x1, .f32⟩
  | .hbm, ⟨12, _⟩ => ⟨S96x4x128, .f32⟩
  | .hbm, ⟨13, _⟩ => ⟨S96x4x128, .f32⟩
  | .local _ .vmem, ⟨0, _⟩ => ⟨S512x2560, .bf16⟩
  | .local _ .vmem, ⟨1, _⟩ => ⟨S512x2560, .bf16⟩
  | .local _ .vmem, ⟨2, _⟩ => ⟨S1x2560, .f32⟩
  | .local _ .vmem, ⟨3, _⟩ => ⟨S1x2560, .f32⟩
  | .local _ .vmem, ⟨4, _⟩ => ⟨S1x16, .f32⟩
  | .local _ .vmem, ⟨5, _⟩ => ⟨S512x2560, .fp8e4m3⟩
  | .local _ .vmem, ⟨6, _⟩ => ⟨S512x2560, .fp8e4m3⟩
  | .local _ .vmem, ⟨7, _⟩ => ⟨S2560x512, .fp8e4m3⟩
  | .local _ .vmem, ⟨8, _⟩ => ⟨S2560x512, .fp8e4m3⟩
  | .local _ .vmem, ⟨9, _⟩ => ⟨S1x1, .f32⟩
  | .local _ .vmem, ⟨10, _⟩ => ⟨S1x1, .f32⟩
  | .local _ .vmem, ⟨11, _⟩ => ⟨S1x4x128, .f32⟩
  | .local _ .vmem, ⟨12, _⟩ => ⟨S1x4x128, .f32⟩
  | .local _ .vmem, ⟨13, _⟩ => ⟨S1x4x128, .f32⟩
  | .local _ .vmem, ⟨14, _⟩ => ⟨S1x4x128, .f32⟩
  | .local _ .vmem, ⟨15, _⟩ => ⟨S1x2560, .f32⟩
  | .local _ .vmem, ⟨16, _⟩ => ⟨S1x2560, .f32⟩
  | .local _ .vmem, ⟨17, _⟩ => ⟨S8x2560, .f32⟩
  | _, _ => ⟨S24x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c95_i32 : BitVec 32 := 95#32
  let v187 : BitVec 1 := Scalar.cmpi .eq arg0 c95_i32
  let v188 : BitVec 32 := Scalar.extui v187
  let c0_i32_93 : BitVec 32 := 0#32
  let v189 : BitVec 1 := Scalar.cmpi .ne v188 c0_i32_93
  v189

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_d" => some ((1 / 2560 : ℝ) : EReal)
  | _ => none
-- ==== ReferenceIdeal.lean ====
abbrev S24x2048x2560 : Shape := ⟨3, ![24, 2048, 2560]⟩
abbrev S2560 : Shape := ⟨1, ![2560]⟩
abbrev S16 : Shape := ⟨1, ![16]⟩
abbrev S49152x2560 : Shape := ⟨2, ![49152, 2560]⟩
abbrev S_ : Shape := ⟨0, ![]⟩
abbrev S49152 : Shape := ⟨1, ![49152]⟩
abbrev S49152x1 : Shape := ⟨2, ![49152, 1]⟩
abbrev S1x2560 : Shape := ⟨2, ![1, 2560]⟩
abbrev S2560x49152 : Shape := ⟨2, ![2560, 49152]⟩
abbrev S1x49152 : Shape := ⟨2, ![1, 49152]⟩
abbrev S2560x1 : Shape := ⟨2, ![2560, 1]⟩
abbrev S1x1 : Shape := ⟨2, ![1, 1]⟩
abbrev S96x4x128 : Shape := ⟨3, ![96, 4, 128]⟩

abbrev nBuf : Space → Nat
  | .hbm => 98
  | .vmem => 4
  | .smem => 0
  | _ => 0

abbrev bufTy : (tb : Table) → Fin (tcTables nBuf tb) → BufTy
  | .hbm, ⟨0, _⟩ => ⟨S24x2048x2560, .bf16⟩
  | .hbm, ⟨1, _⟩ => ⟨S2560, .f32⟩
  | .hbm, ⟨2, _⟩ => ⟨S2560, .f32⟩
  | .hbm, ⟨3, _⟩ => ⟨S16, .f32⟩
  | .hbm, ⟨4, _⟩ => ⟨S49152x2560, .bf16⟩
  | .hbm, ⟨5, _⟩ => ⟨S49152x2560, .f32⟩
  | .hbm, ⟨6, _⟩ => ⟨S_, .f32⟩
  | .hbm, ⟨7, _⟩ => ⟨S49152, .f32⟩
  | .hbm, ⟨8, _⟩ => ⟨S_, .f32⟩
  | .hbm, ⟨9, _⟩ => ⟨S49152, .f32⟩
  | .hbm, ⟨10, _⟩ => ⟨S49152, .f32⟩
  | .hbm, ⟨11, _⟩ => ⟨S49152x1, .f32⟩
  | .hbm, ⟨12, _⟩ => ⟨S49152x2560, .f32⟩
  | .hbm, ⟨13, _⟩ => ⟨S49152x2560, .f32⟩
  | .hbm, ⟨14, _⟩ => ⟨S49152x2560, .f32⟩
  | .hbm, ⟨15, _⟩ => ⟨S_, .f32⟩
  | .hbm, ⟨16, _⟩ => ⟨S49152, .f32⟩
  | .hbm, ⟨17, _⟩ => ⟨S_, .f32⟩
  | .hbm, ⟨18, _⟩ => ⟨S49152, .f32⟩
  | .hbm, ⟨19, _⟩ => ⟨S49152, .f32⟩
  | .hbm, ⟨20, _⟩ => ⟨S_, .f32⟩
  | .hbm, ⟨21, _⟩ => ⟨S49152, .f32⟩
  | .hbm, ⟨22, _⟩ => ⟨S49152, .f32⟩
  | .hbm, ⟨23, _⟩ => ⟨S49152, .f32⟩
  | .hbm, ⟨24, _⟩ => ⟨S49152x1, .f32⟩
  | .hbm, ⟨25, _⟩ => ⟨S49152x2560, .f32⟩
  | .hbm, ⟨26, _⟩ => ⟨S49152x2560, .f32⟩
  | .hbm, ⟨27, _⟩ => ⟨S1x2560, .f32⟩
  | .hbm, ⟨28, _⟩ => ⟨S49152x2560, .f32⟩
  | .hbm, ⟨29, _⟩ => ⟨S49152x2560, .f32⟩
  | .hbm, ⟨30, _⟩ => ⟨S1x2560, .f32⟩
  | .hbm, ⟨31, _⟩ => ⟨S49152x2560, .f32⟩
  | .hbm, ⟨32, _⟩ => ⟨S49152x2560, .f32⟩
  | .hbm, ⟨33, _⟩ => ⟨S49152x2560, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S49152x2560, .f32⟩
  | .hbm, ⟨60, _⟩ => ⟨S49152x2560, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S49152x2560, .f32⟩
  | .hbm, ⟨65, _⟩ => ⟨S49152x2560, .f32⟩
  | .hbm, ⟨66, _⟩ => ⟨S_, .f32⟩
  | .hbm, ⟨67, _⟩ => ⟨S49152x2560, .f32⟩
  | .hbm, ⟨68, _⟩ => ⟨S49152x2560, .f32⟩
  | .hbm, ⟨69, _⟩ => ⟨S2560x49152, .f32⟩
  | .hbm, ⟨70, _⟩ => ⟨S1x49152, .f32⟩
  | .hbm, ⟨71, _⟩ => ⟨S2560x49152, .f32⟩
  | .hbm, ⟨72, _⟩ => ⟨S2560x49152, .f32⟩
  | .hbm, ⟨73, _⟩ => ⟨S1x49152, .f32⟩
  | .hbm, ⟨74, _⟩ => ⟨S2560x49152, .f32⟩
  | .hbm, ⟨75, _⟩ => ⟨S2560x49152, .f32⟩
  | .hbm, ⟨76, _⟩ => ⟨S2560x1, .f32⟩
  | .hbm, ⟨77, _⟩ => ⟨S2560x49152, .f32⟩
  | .hbm, ⟨78, _⟩ => ⟨S2560x49152, .f32⟩
  | .hbm, ⟨79, _⟩ => ⟨S2560x1, .f32⟩
  | .hbm, ⟨80, _⟩ => ⟨S2560x49152, .f32⟩
  | .hbm, ⟨81, _⟩ => ⟨S2560x49152, .f32⟩
  | .hbm, ⟨82, _⟩ => ⟨S2560x49152, .f32⟩
  | .hbm, ⟨83, _⟩ => ⟨S2560x49152, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S2560x49152, .f32⟩
  | .hbm, ⟨88, _⟩ => ⟨S2560x49152, .f32⟩
  | .hbm, ⟨89, _⟩ => ⟨S_, .f32⟩
  | .hbm, ⟨90, _⟩ => ⟨S2560x49152, .f32⟩
  | .hbm, ⟨91, _⟩ => ⟨S2560x49152, .f32⟩
  | .hbm, ⟨92, _⟩ => ⟨S1x1, .f32⟩
  | .hbm, ⟨93, _⟩ => ⟨S1x1, .f32⟩
  | .hbm, ⟨94, _⟩ => ⟨S96x4x128, .f32⟩
  | .hbm, ⟨95, _⟩ => ⟨S96x4x128, .f32⟩
  | .hbm, ⟨96, _⟩ => ⟨S49152x2560, .fp8e4m3⟩
  | .hbm, ⟨97, _⟩ => ⟨S2560x49152, .fp8e4m3⟩
  | .local _ .vmem, ⟨0, _⟩ => ⟨S49152x2560, .f32⟩
  | .local _ .vmem, ⟨1, _⟩ => ⟨S2560x49152, .f32⟩
  | .local _ .vmem, ⟨2, _⟩ => ⟨S49152x2560, .fp8e4m3⟩
  | .local _ .vmem, ⟨3, _⟩ => ⟨S2560x49152, .fp8e4m3⟩
  | _, _ => ⟨S24x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_call0_v0 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_cst_14 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_cst_16 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63_0 : Ref sig .tc := ⟨.hbm, 96, rfl⟩
abbrev main_v63_1 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S49152x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x49152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x49152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Run.Shared.lean ====
/- What the three runs of the idealized kernel's body share: its two branch conditions in closed form over the grid
   point (the first point; the last point), where each output window is stored into, the buffers the body is called with. -/
module

public import proofs.«01_k».proof.Proof.Gen.KernelIdeal.Frame
public import proofs.«01_k».proof.Proof.Gen.KernelIdeal.Skeleton
public import Idealize.ShloMosaic.Lib.Pipeline.TableIdle

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, k0_cond1, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_1, k0_cond2, e0]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x800000000000000000000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 idle: the case reads it and stores nothing into it. -/
theorem idleAt0_6_C : ∀ t : Fin cfg0.N, ¬cond0_0 (grid0.coords t) → cond0_1 (grid0.coords t) → cfg0.idle 6 (grid0.coords t) = true := by decide +kernel
/-- At the points of case C the pipeline writes output 6's block back. -/
theorem flush0_6_C : ∀ t : Fin cfg0.N, ¬cond0_0 (grid0.coords t) → cond0_1 (grid0.coords t) → (cfg0.win 6).flush t = true := by decide +kernel
/-- At the points of case C, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_C : ∀ t : Fin cfg0.N, ¬cond0_0 (grid0.coords t) → cond0_1 (grid0.coords t) → cfg0.fresh 6 t.val = false := by
  intro t; rw [fresh0_6_eq t]; revert t; decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 4, through which its contents are stated (`View.read_writes_of_cover`: the
    choice does not matter). -/
abbrev VO0_4 : View sig .tc .vmem S512x2560 .fp8e4m3 := (Memref.whole cc0_stg4_0 : Memref sig .tc .vmem S512x2560 .fp8e4m3).view
/-- One staging buffer of output window 5, through which its contents are stated (`View.read_writes_of_cover`: the
    choice does not matter). -/
abbrev VO0_5 : View sig .tc .vmem S2560x512 .fp8e4m3 := (Memref.whole cc0_stg5_0 : Memref sig .tc .vmem S2560x512 .fp8e4m3).view
/-- One staging buffer of output window 6, through which its contents are stated (`View.read_writes_of_cover`: the
    choice does not matter). -/
abbrev VO0_6 : View sig .tc .vmem S1x1 .f32 := (Memref.whole cc0_stg6_0 : Memref sig .tc .vmem S1x1 .f32).view
/-- One staging buffer of output window 7, through which its contents are stated (`View.read_writes_of_cover`: the
    choice does not matter). -/
abbrev VO0_7 : View sig .tc .vmem S1x1 .f32 := (Memref.whole cc0_stg7_0 : Memref sig .tc .vmem S1x1 .f32).view
/-- One staging buffer of output window 8, through which its contents are stated (`View.read_writes_of_cover`: the
    choice does not matter). -/
abbrev VO0_8 : View sig .tc .vmem S1x4x128 .f32 := (Memref.whole cc0_stg8_0 : Memref sig .tc .vmem S1x4x128 .f32).view
/-- One staging buffer of output window 9, through which its contents are stated (`View.read_writes_of_cover`: the
    choice does not matter). -/
abbrev VO0_9 : View sig .tc .vmem S1x4x128 .f32 := (Memref.whole cc0_stg9_0 : Memref sig .tc .vmem S1x4x128 .f32).view
/-- Each window's current staging memref at point `t`, spelled as the pipeline passes it (`bodyAt0`), and its wholeness. -/
abbrev ms0_0 (t : Fin cfg0.N) : Memref sig .tc .vmem S512x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2560 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2560x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1x2560 .f32 := Memref.whole cc0_scratch0
abbrev scM0_1 : Memref sig .tc .vmem S1x2560 .f32 := Memref.whole cc0_scratch1
abbrev scM0_2 : Memref sig .tc .vmem S8x2560 .f32 := Memref.whole cc0_scratch2
/-- The scratch `arg11` the kernel carries between points, as a view: what it holds is stated through it. -/
abbrev VS0_0 : View sig .tc .vmem S1x2560 .f32 := scM0_0.view
/-- The scratch `arg12` the kernel carries between points, as a view: what it holds is stated through it. -/
abbrev VS0_1 : View sig .tc .vmem S1x2560 .f32 := scM0_1.view
/-- The scratch `arg13` the kernel carries between points, as a view: what it holds is stated through it. -/
abbrev VS0_2 : View sig .tc .vmem S8x2560 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Run.CaseA.lean ====
/- The whole body of the idealized kernel run once at the first grid point, where the scale is derived and the accumulator cleared: what each buffer ends with. -/
module

public import proofs.«01_k».proof.Proof.Run.Shared

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) :
    Σ' (L4 : List (View.Piece (Elt F) S512x2560 .fp8e4m3)), Σ' (L5 : List (View.Piece (Elt F) S2560x512 .fp8e4m3)), Σ' (L6 : List (View.Piece (Elt F) S1x1 .f32)), Σ' (L7 : List (View.Piece (Elt F) S1x1 .f32)), Σ' (L8 : List (View.Piece (Elt F) S1x4x128 .f32)), Σ' (L9 : List (View.Piece (Elt F) S1x4x128 .f32)), Σ' (LS0 : List (View.Piece (Elt F) S1x2560 .f32)), Σ' (LS1 : List (View.Piece (Elt F) S1x2560 .f32)), { LS2 : List (View.Piece (Elt F) S8x2560 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, [], ?_, ?_, ?_, ?_, ?_, fun xi7 E K => ?run⟩
  case run =>
    simp only [cc0__body_eq_skeleton]; unfold cc0__body_skel
    simp only [k0_part3_eq_skeleton, k0_part1_eq_skeleton, k0_part2_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Run

end
-- ==== Proof.Run.CaseB.lean ====
/- The whole body of the idealized kernel run once at a grid point that is neither first nor last: what each buffer ends with. -/
module

public import proofs.«01_k».proof.Proof.Run.CaseA

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 94: 94 of 96), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) :
    Σ' (L4 : List (View.Piece (Elt F) S512x2560 .fp8e4m3)), Σ' (L5 : List (View.Piece (Elt F) S2560x512 .fp8e4m3)), Σ' (L6 : List (View.Piece (Elt F) S1x1 .f32)), Σ' (L7 : List (View.Piece (Elt F) S1x1 .f32)), Σ' (L8 : List (View.Piece (Elt F) S1x4x128 .f32)), Σ' (L9 : List (View.Piece (Elt F) S1x4x128 .f32)), Σ' (LS0 : List (View.Piece (Elt F) S1x2560 .f32)), Σ' (LS1 : List (View.Piece (Elt F) S1x2560 .f32)), { LS2 : List (View.Piece (Elt F) S8x2560 .f32) //
      ∀ (xi6 : Vec F S1x1 .f32) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], [], ?_, ?_, [], [], ?_, fun xi6 xi7 E K => ?run⟩
  case run =>
    simp only [cc0__body_eq_skeleton]; unfold cc0__body_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _; isplitr; · ipureintro; exact harg11.read_unread _
      iexact HS0
    isplitl [HS1]
    · iexists _; isplitr; · ipureintro; exact harg12.read_unread _
      iexact HS1
    iexists _; iexact HS2

end Cert.KernelIdeal.Run

end
-- ==== Proof.Run.CaseC.lean ====
/- The whole body of the idealized kernel run once at the last grid point, where the running maximum is turned into the second scalar result: what each buffer ends with. -/
module

public import proofs.«01_k».proof.Proof.Run.CaseB

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 95), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) :
    Σ' (L4 : List (View.Piece (Elt F) S512x2560 .fp8e4m3)), Σ' (L5 : List (View.Piece (Elt F) S2560x512 .fp8e4m3)), Σ' (L6 : List (View.Piece (Elt F) S1x1 .f32)), Σ' (L7 : List (View.Piece (Elt F) S1x1 .f32)), Σ' (L8 : List (View.Piece (Elt F) S1x4x128 .f32)), Σ' (L9 : List (View.Piece (Elt F) S1x4x128 .f32)), Σ' (LS0 : List (View.Piece (Elt F) S1x2560 .f32)), Σ' (LS1 : List (View.Piece (Elt F) S1x2560 .f32)), { LS2 : List (View.Piece (Elt F) S8x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xo6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], ?_, ?_, ?_, [], [], ?_, fun E K => ?run⟩
  case run =>
    simp only [cc0__body_eq_skeleton]; unfold cc0__body_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hf6; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _; isplitr; · ipureintro; exact harg11.read_unread _
      iexact HS0
    isplitl [HS1]
    · iexists _; isplitr; · ipureintro; exact harg12.read_unread _
      iexact HS1
    iexists _; iexact HS2

end Cert.KernelIdeal.Run

end
-- ==== Proof.Run.Outs.lean ====
/- What every output block and every carried buffer of the idealized kernel holds after one run of its body, for each of
   the three kinds of grid point. -/
module

public import proofs.«01_k».proof.Proof.Run.CaseC
public import Idealize.ShloMosaic.Lib.Claim

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 4 tile its block (4 stores of `S128x2560`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1 S128x2560.size (by sl_kernel_rfl) y

/-- What case A leaves in output 4's staging buffer: its pieces read back over junk. -/
def out0_A_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S512x2560 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1)

/-- Case A's pieces for output 5 tile its block (4 stores of `S2560x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S2560x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1 S2560x128.size (by sl_kernel_rfl) y

/-- What case A leaves in output 5's staging buffer: its pieces read back over junk. -/
def out0_A_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S2560x512 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1)

/-- Case A's pieces for output 6 tile its block (1 store of `S1x1`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1 S1x1.size (by sl_kernel_rfl) y

/-- What case A leaves in output 6's staging buffer: its pieces read back over junk. -/
def out0_A_6 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x1 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1)

/-- Case A's pieces for output 8 tile its block (4 stores of `S1x1x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S1x4x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 S1x1x128.size (by sl_kernel_rfl) y

/-- What case A leaves in output 8's staging buffer: its pieces read back over junk. -/
def out0_A_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x4x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1)

/-- Case A's pieces for output 9 tile its block (4 stores of `S1x1x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S1x4x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1 S1x1x128.size (by sl_kernel_rfl) y

/-- What case A leaves in output 9's staging buffer: its pieces read back over junk. -/
def out0_A_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x4x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1)

/-- Case A's pieces for scratch `arg11`, which the kernel carries between points, cover it: 1 piece of `S1x2560` tiling it (Lib/Ring.lean `Piece.tiledL`). -/
theorem scover0_A_0 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1 S1x2560.size (by sl_kernel_rfl) y

/-- What case A leaves in scratch `arg11`: its pieces read back over junk. -/
def sout0_A_0 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1)

/-- Case A's pieces for scratch `arg12`, which the kernel carries between points, cover it: 1 piece of `S1x2560` tiling it (Lib/Ring.lean `Piece.tiledL`). -/
theorem scover0_A_1 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1 S1x2560.size (by sl_kernel_rfl) y

/-- What case A leaves in scratch `arg12`: its pieces read back over junk. -/
def sout0_A_1 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S1x2560 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1)

/-- Case A's pieces for scratch `arg13`, which the kernel carries between points, cover it: 2 pieces of `S8x2560` tiling it (Lib/Ring.lean `Piece.tiledL`). -/
theorem scover0_A_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) (y : S8x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1 S8x2560.size (by sl_kernel_rfl) y

/-- What case A leaves in scratch `arg13`: its pieces read back over junk. -/
def sout0_A_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i)
    (x0 : Vec F S512x2560 .bf16) (x1 : Vec F S1x2560 .f32) (x2 : Vec F S1x2560 .f32) (x3 : Vec F S1x16 .f32) : Vec F S8x2560 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1)

/-- Case B's pieces for output 4 tile its block (4 stores of `S128x2560`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (y : S512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).1 S128x2560.size (by sl_kernel_rfl) y

/-- What case B leaves in output 4's staging buffer: its pieces read back over junk. -/
def out0_B_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S512x2560 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).1)

/-- Case B's pieces for output 5 tile its block (4 stores of `S2560x128`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (y : S2560x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.1 S2560x128.size (by sl_kernel_rfl) y

/-- What case B leaves in output 5's staging buffer: its pieces read back over junk. -/
def out0_B_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S2560x512 .fp8e4m3 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (xo6 : Vec F S1x1 .f32) : Vec F S1x1 .f32 := xo6

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S1x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.1)

/-- Case B's pieces for output 8 tile its block (4 stores of `S1x1x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (y : S1x4x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.1 S1x1x128.size (by sl_kernel_rfl) y

/-- What case B leaves in output 8's staging buffer: its pieces read back over junk. -/
def out0_B_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S1x4x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.1)

/-- Case B's pieces for output 9 tile its block (4 stores of `S1x1x128`, checked by the kernel's evaluation: Lib/Ring.lean `Piece.tiledL`, linear in the pieces, through a loop's `@[irreducible]` trip theorem too), so they cover it. -/
theorem cover0_B_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (y : S1x4x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.1 S1x1x128.size (by sl_kernel_rfl) y

/-- What case B leaves in output 9's staging buffer: its pieces read back over junk. -/
def out0_B_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S1x4x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.1)

/-- Case B stores nothing into scratch `arg11`: it holds what the point before left. -/
def sout0_B_0 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S1x2560 .f32 := xs0

/-- Case B stores nothing into scratch `arg12`: it holds what the point before left. -/
def sout0_B_1 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S1x2560 .f32 := xs1

/-- Case B's pieces for scratch `arg13`, which the kernel carries between points, cover it: 1 piece of `S8x2560` tiling it (Lib/Ring.lean `Piece.tiledL`). -/
theorem scover0_B_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) (y : S8x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.2.2.2.1 S8x2560.size (by sl_kernel_rfl) y

/-- What case B leaves in scratch `arg13`: its pieces read back over junk. -/
def sout0_B_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i)
    (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32) : Vec F S8x2560 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2).2.2.2.2.2.2.2.2.1)

/-- Case C's pieces for output 4 tile its block (4 stores of `S128x2560`, checked by the kernel's evaluation: Lib/Ring.lean `Piece.tiledL`, linear in the pieces, through a loop's `@[irreducible]` trip theorem too), so they cover it. -/
theorem cover0_C_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S512x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).1 S128x2560.size (by sl_kernel_rfl) y

/-- What case C leaves in output 4's staging buffer: its pieces read back over junk. -/
def out0_C_4 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S512x2560 .fp8e4m3 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).1)

/-- Case C's pieces for output 5 tile its block (4 stores of `S2560x128`, checked by the kernel's evaluation: Lib/Ring.lean `Piece.tiledL`, linear in the pieces, through a loop's `@[irreducible]` trip theorem too), so they cover it. -/
theorem cover0_C_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S2560x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.1 S2560x128.size (by sl_kernel_rfl) y

/-- What case C leaves in output 5's staging buffer: its pieces read back over junk. -/
def out0_C_5 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S2560x512 .fp8e4m3 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.1)

/-- Case C stores nothing into output 6 and reads it: its buffer keeps what the point before left, which the pipeline then writes back. -/
def out0_C_6 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x1 .f32 := xo6

/-- Case C's pieces for output 7 tile its block (1 store of `S1x1`, checked by the kernel's evaluation: Lib/Ring.lean `Piece.tiledL`, linear in the pieces, through a loop's `@[irreducible]` trip theorem too), so they cover it. -/
theorem cover0_C_7 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.1 S1x1.size (by sl_kernel_rfl) y

/-- What case C leaves in output 7's staging buffer: its pieces read back over junk. -/
def out0_C_7 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x1 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.1)

/-- Case C's pieces for output 8 tile its block (4 stores of `S1x1x128`, checked by the kernel's evaluation: Lib/Ring.lean `Piece.tiledL`, linear in the pieces, through a loop's `@[irreducible]` trip theorem too), so they cover it. -/
theorem cover0_C_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S1x4x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.1 S1x1x128.size (by sl_kernel_rfl) y

/-- What case C leaves in output 8's staging buffer: its pieces read back over junk. -/
def out0_C_8 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x4x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.1)

/-- Case C's pieces for output 9 tile its block (4 stores of `S1x1x128`, checked by the kernel's evaluation: Lib/Ring.lean `Piece.tiledL`, linear in the pieces, through a loop's `@[irreducible]` trip theorem too), so they cover it. -/
theorem cover0_C_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S1x4x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.1 S1x1x128.size (by sl_kernel_rfl) y

/-- What case C leaves in output 9's staging buffer: its pieces read back over junk. -/
def out0_C_9 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x4x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.1)

/-- Case C stores nothing into scratch `arg11`: it holds what the point before left. -/
def sout0_C_0 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x2560 .f32 := xs0

/-- Case C stores nothing into scratch `arg12`: it holds what the point before left. -/
def sout0_C_1 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S1x2560 .f32 := xs1

/-- Case C's pieces for scratch `arg13`, which the kernel carries between points, cover it: 1 piece of `S8x2560` tiling it (Lib/Ring.lean `Piece.tiledL`). -/
theorem scover0_C_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) (y : S8x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.2.2.2.1 S8x2560.size (by sl_kernel_rfl) y

/-- What case C leaves in scratch `arg13`: its pieces read back over junk. -/
def sout0_C_2 (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i)
    (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32) : Vec F S8x2560 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2).2.2.2.2.2.2.2.2.1)

end Cert.KernelIdeal.Run

end
-- ==== Proof.Run.Body.lean ====
/- The idealized kernel's whole run: what the buffers hold point by point (`outsAt0`), the proof data of the pipeline, the
   obligation of the body at every point, the run and the frame. -/
module

public import proofs.«01_k».proof.Proof.Run.Outs

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 96 = 0 then
      if h1 : (n + 1) % 96 = 95 then
        False.elim (by have hN : n + 1 < 96 := lt_of_lt_of_eq hn (show cfg0.N = 96 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 96 = 95 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (outsAt0 c n (Nat.lt_of_succ_lt hn)).2.2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)

/-- `outsAt0` at a point of case A: that case's contents. -/
theorem outsAt0_A (c : Dev nD) (t : Fin cfg0.N) (h0 : t.val % 96 = 0) (h1 : ¬t.val % 96 = 95) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 96 = 0) (h1 : ¬t.val % 96 = 95) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (outsAt0 m c (t.val - 1) (Nat.lt_of_le_of_lt (Nat.sub_le _ _) t.isLt)).2.2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 96 = 0) (h1 : t.val % 96 = 95) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 96 := lt_of_lt_of_eq t.isLt (show cfg0.N = 96 from N_0)
  rw [after0_6, after0_6]
  by_cases h0 : t.val % 96 = 0
  · by_cases h1 : t.val % 96 = 95
    · exfalso; omega
    · rw [liveAt0_6_A t ((hcond0_0 t).mpr h0) (fun h => h1 ((hcond0_1 t).mp h))] at hi
      exact absurd hi Bool.false_ne_true
  · by_cases h1 : t.val % 96 = 95
    · rw [outsAt0_C m c t h0 h1]
      dsimp only
      unfold out0_C_6
      rfl
    · rw [outsAt0_B m c t h0 h1]
      dsimp only
      unfold out0_B_6
      rfl
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 96 = 0) (h1 : t.val % 96 = 95) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases h1 : t.val % 96 = 95
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · rw [PhiS_castSucc m c t, PhiS_zero m c _ _ hz, PhiA0_eq]
        rw [outsAt0_A m c t h0 h1]
        unfold out0_A_4 out0_A_5 out0_A_6 out0_A_8 out0_A_9 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexact H7
        isplitl [H8]; · iexists _; iexact H8
        isplitl [H9]; · iexists _; iexact H9
        isplitl [HS0]; · iexact HS0
        isplitl [HS1]; · iexact HS1
        isplitl [HS2]; · iexact HS2
        iintro ⟨H0, H1, H2, H3, ⟨%e4, H4⟩, ⟨%e5, H5⟩, ⟨%e6, H6⟩, H7, ⟨%e8, H8⟩, ⟨%e9, H9⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _)
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      · exfalso; have hN : t.val < 96 := lt_of_lt_of_eq t.isLt (show cfg0.N = 96 from N_0); omega
  · by_cases h1 : t.val % 96 = 95
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [idleAt0_6_C t (fun h => h0 ((hcond0_0 t).mp h)) ((hcond0_1 t).mpr h1), flush0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 96 := lt_of_lt_of_eq t.isLt (show cfg0.N = 96 from N_0); omega
      · rw [PhiS_castSucc m c t, PhiS_pos m c _ _ hz]
        rw [outsAt0_C m c t h0 h1]
        simp only [before0_6_C m c t h0 h1]
        unfold out0_C_4 out0_C_5 out0_C_6 out0_C_7 out0_C_8 out0_C_9 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        iintro ⟨H0, H1, H2, H3, ⟨%e4, H4⟩, ⟨%e5, H5⟩, H6, ⟨%e7, H7⟩, ⟨%e8, H8⟩, ⟨%e9, H9⟩, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _ _ _ _)
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 96 := lt_of_lt_of_eq t.isLt (show cfg0.N = 96 from N_0); omega
      · rw [PhiS_castSucc m c t, PhiS_pos m c _ _ hz]
        rw [outsAt0_B m c t h0 h1]
        unfold out0_B_4 out0_B_5 out0_B_8 out0_B_9 sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [H8]; · iexists _; iexact H8
        isplitl [H9]; · iexists _; iexact H9
        isplitl [HS0]; · iexact HS0
        isplitl [HS1]; · iexact HS1
        isplitl [HS2]; · iexact HS2
        iintro ⟨H0, H1, H2, H3, ⟨%e4, H4⟩, ⟨%e5, H5⟩, H6, H7, ⟨%e8, H8⟩, ⟨%e9, H9⟩, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _)
        isplitl [H6]; · iexists _; iexact H6
        isplitl [H7]; · iexists _; iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.Run.Blocks.lean ====
/- What each grid point writes back to each result array of the idealized kernel, and the carried buffers as folds over
   the grid points. -/
module

public import proofs.«01_k».proof.Proof.Run.Body
public import Idealize.ShloMosaic.Lib.Pipeline.Value

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 96 = 0) (h1 : ¬t.val % 96 = 95) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 96 = 0) (h1 : ¬t.val % 96 = 95) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 96 = 0) (h1 : t.val % 96 = 95) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed4, outsAt0_C m c t h0 h1]

/-- The index map sends distinct grid points to distinct block indices (decided over the 96 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S49152x2560.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 96 = 0) (h1 : ¬t.val % 96 = 95) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 96 = 0) (h1 : ¬t.val % 96 = 95) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 96 = 0) (h1 : t.val % 96 = 95) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed5, outsAt0_C m c t h0 h1]

/-- The index map sends distinct grid points to distinct block indices (decided over the 96 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2560x49152.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 96 = 0) (h1 : ¬t.val % 96 = 95) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 96 = 0) (h1 : ¬t.val % 96 = 95) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (outsAt0 m c (t.val - 1) (Nat.lt_of_le_of_lt (Nat.sub_le _ _) t.isLt)).2.2.1) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 96 = 0) (h1 : t.val % 96 = 95) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 96 = 0) (h1 : ¬t.val % 96 = 95) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 96 = 0) (h1 : ¬t.val % 96 = 95) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 96 = 0) (h1 : t.val % 96 = 95) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed7, outsAt0_C m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S1x1.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 4), read through the window's block. -/
theorem flushed8 (c : Dev nD) (t : Fin cfg0.N) :
    (dats m 0 c).flushed 8 t = (cfg0.win 8).cut (grid0.coords t) ((outsAt0 m c t.val t.isLt).2.2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 96 = 0) (h1 : ¬t.val % 96 = 95) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 96 = 0) (h1 : ¬t.val % 96 = 95) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 96 = 0) (h1 : t.val % 96 = 95) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed8, outsAt0_C m c t h0 h1]

/-- The index map sends distinct grid points to distinct block indices (decided over the 96 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S96x4x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 5), read through the window's block. -/
theorem flushed9 (c : Dev nD) (t : Fin cfg0.N) :
    (dats m 0 c).flushed 9 t = (cfg0.win 9).cut (grid0.coords t) ((outsAt0 m c t.val t.isLt).2.2.2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 96 = 0) (h1 : ¬t.val % 96 = 95) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 96 = 0) (h1 : ¬t.val % 96 = 95) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed9, outsAt0_B m c t h0 h1]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 96 = 0) (h1 : t.val % 96 = 95) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed9, outsAt0_C m c t h0 h1]

/-- The index map sends distinct grid points to distinct block indices (decided over the 96 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S96x4x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v4_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_5) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_v4_4) = (dats m 0 c).arrAt 8 cfg0.N
      ∧ r.2.mem ((c : Thread nD τ).loc main_v4_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1x2560 .f32) : Vec F S1x2560 .f32 :=
  if h0 : n % 96 = 0 then
    if h1 : n % 96 = 95 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 96 = 95 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2

/-- WHAT CARRIED SCRATCH 0 HOLDS after point `t`: the fold of its run up to `t`, from the reset at the run's first point
    `96·(t / 96)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2.2.1 = Pipeline.accAt (fun n h => scAt0_0 m c n h (VS0_0.read (Elt F) VS0_0.junk)) (scAt0_0 m c) (96 * (t.val / 96)) (t.val % 96)
      (by have h1 := t.isLt; have h2 := Nat.div_add_mod t.val 96; omega) :=
  Pipeline.eq_accAt_of_mod (fun n h => (outsAt0 m c n h).2.2.2.2.2.2.1) 96 (fun n h => scAt0_0 m c n h (VS0_0.read (Elt F) VS0_0.junk)) (scAt0_0 m c)
    (fun n h hn => by
      have hN := lt_of_lt_of_eq h (show cfg0.N = 96 from N_0)
      by_cases h0 : n % 96 = 0 <;> by_cases h1 : n % 96 = 95
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 96 from N_0)
      by_cases h0 : (n + 1) % 96 = 0 <;> by_cases h1 : (n + 1) % 96 = 95
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 96 from N_0)
  have hd : n / 96 = 0 := Nat.div_eq_of_lt hN
  have hm : n % 96 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S1x2560 .f32) : Vec F S1x2560 .f32 :=
  if h0 : n % 96 = 0 then
    if h1 : n % 96 = 95 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 96 = 95 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.2.2.2.1 acc (outsAt0 m c ((⟨n, hb⟩ : Fin cfg0.N).val - 1) (Nat.lt_of_le_of_lt (Nat.sub_le _ _) (⟨n, hb⟩ : Fin cfg0.N).isLt)).2.2.2.2.2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.2.2.1 acc (outsAt0 m c ((⟨n, hb⟩ : Fin cfg0.N).val - 1) (Nat.lt_of_le_of_lt (Nat.sub_le _ _) (⟨n, hb⟩ : Fin cfg0.N).isLt)).2.2.2.2.2.2.2.2

/-- WHAT CARRIED SCRATCH 1 HOLDS after point `t`: the fold of its run up to `t`, from the reset at the run's first point
    `96·(t / 96)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2.2.2.1 = Pipeline.accAt (fun n h => scAt0_1 m c n h (VS0_1.read (Elt F) VS0_1.junk)) (scAt0_1 m c) (96 * (t.val / 96)) (t.val % 96)
      (by have h1 := t.isLt; have h2 := Nat.div_add_mod t.val 96; omega) :=
  Pipeline.eq_accAt_of_mod (fun n h => (outsAt0 m c n h).2.2.2.2.2.2.2.1) 96 (fun n h => scAt0_1 m c n h (VS0_1.read (Elt F) VS0_1.junk)) (scAt0_1 m c)
    (fun n h hn => by
      have hN := lt_of_lt_of_eq h (show cfg0.N = 96 from N_0)
      by_cases h0 : n % 96 = 0 <;> by_cases h1 : n % 96 = 95
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 96 from N_0)
      by_cases h0 : (n + 1) % 96 = 0 <;> by_cases h1 : (n + 1) % 96 = 95
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 96 from N_0)
  have hd : n / 96 = 0 := Nat.div_eq_of_lt hN
  have hm : n % 96 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S8x2560 .f32) : Vec F S8x2560 .f32 :=
  if h0 : n % 96 = 0 then
    if h1 : n % 96 = 95 then
      acc
    else
      sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 96 = 95 then
      sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 acc
    else
      sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 acc

/-- WHAT CARRIED SCRATCH 2 HOLDS after point `t`: the fold of its run up to `t`, from the reset at the run's first point
    `96·(t / 96)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.2.2.2.2 = Pipeline.accAt (fun n h => scAt0_2 m c n h (VS0_2.read (Elt F) VS0_2.junk)) (scAt0_2 m c) (96 * (t.val / 96)) (t.val % 96)
      (by have h1 := t.isLt; have h2 := Nat.div_add_mod t.val 96; omega) :=
  Pipeline.eq_accAt_of_mod (fun n h => (outsAt0 m c n h).2.2.2.2.2.2.2.2) 96 (fun n h => scAt0_2 m c n h (VS0_2.read (Elt F) VS0_2.junk)) (scAt0_2 m c)
    (fun n h hn => by
      have hN := lt_of_lt_of_eq h (show cfg0.N = 96 from N_0)
      by_cases h0 : n % 96 = 0 <;> by_cases h1 : n % 96 = 95
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 96 from N_0)
      by_cases h0 : (n + 1) % 96 = 0 <;> by_cases h1 : (n + 1) % 96 = 95
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.2.2.2 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 96 from N_0)
  have hd : n / 96 = 0 := Nat.div_eq_of_lt hN
  have hm : n % 96 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32 :=
  ((VO0_4.read (Elt F) VO0_4.junk, VO0_5.read (Elt F) VO0_5.junk, VO0_6.read (Elt F) VO0_6.junk, VO0_7.read (Elt F) VO0_7.junk, VO0_8.read (Elt F) VO0_8.junk, VO0_9.read (Elt F) VO0_9.junk, VS0_0.read (Elt F) VS0_0.junk, VS0_1.read (Elt F) VS0_1.junk, VS0_2.read (Elt F) VS0_2.junk) : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32) : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32 :=
  if h0 : n % 96 = 0 then
    if h1 : n % 96 = 95 then
      False.elim (by have hN : n < 96 := lt_of_lt_of_eq hb (show cfg0.N = 96 from N_0); omega)
    else
      (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    if h1 : n % 96 = 95 then
      (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, out0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.2.2.2.1 acc.2.2.2.2.2.2.2.1 acc.2.2.2.2.2.2.2.2)
    else
      (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2 acc.2.2.1, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.2.2.1 acc.2.2.2.2.2.2.2.1 acc.2.2.2.2.2.2.2.2)

/-- `stAt0` at a point of case A: that case's contents. -/
theorem stAt0_A (c : Dev nD) (t : Fin cfg0.N) (acc : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32) (h0 : t.val % 96 = 0) (h1 : ¬t.val % 96 = 95) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) :=
  (dif_pos h0).trans ((dif_neg h1).trans rfl)

/-- `stAt0` at a point of case B: that case's contents, over `acc`. -/
theorem stAt0_B (c : Dev nD) (t : Fin cfg0.N) (acc : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32) (h0 : ¬t.val % 96 = 0) (h1 : ¬t.val % 96 = 95) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2 acc.2.2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.2.2.1 acc.2.2.2.2.2.2.2.1 acc.2.2.2.2.2.2.2.2) :=
  (dif_neg h0).trans ((dif_neg h1).trans rfl)

/-- `stAt0` at a point of case C: that case's contents, over `acc`. -/
theorem stAt0_C (c : Dev nD) (t : Fin cfg0.N) (acc : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32) (h0 : ¬t.val % 96 = 0) (h1 : t.val % 96 = 95) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.1 acc.2.2.2.2.2.2.1 acc.2.2.2.2.2.2.2.1 acc.2.2.2.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 96 from N_0)
  have e := Pipeline.eq_accAt_of_mod (fun n h => outsAt0 m c n h) 96 (fun n h => stAt0 m c n h junk0) (stAt0 m c)
    (fun n h _ => by
      have hN := lt_of_lt_of_eq h (show cfg0.N = 96 from N_0)
      obtain rfl : n = 0 := by omega
      exact outsAt0_zero m c h)
    (fun n h _ => outsAt0_succ m c n h)
    (by decide) n hn (by have := Nat.div_add_mod n 96; omega)
  have hd : n / 96 = 0 := Nat.div_eq_of_lt hN
  have hm : n % 96 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

end Cert.KernelIdeal.Run

end
-- ==== Proof.Run.Arrays.lean ====
/- Each result array of the idealized kernel, index by index: the block of the grid point that covers the index. -/
module

public import proofs.«01_k».proof.Proof.Run.Blocks

@[expose] public section

-- membership in a rectangle of production extents recurses once per coordinate of the long axes
set_option maxRecDepth 16384

noncomputable section

namespace Cert.KernelIdeal.Run

open Cert.KernelIdeal Cert.KernelIdeal.Gen

open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Output window 4 -/

/-- The block of the array that holds index `i`, numbered in the order the points write the blocks back (one per point),
    `i`'s place in it, and the point that writes it back. -/
abbrev run4Of (i : S49152x2560.Idx) : ℕ := 1 * ((i 0).val / 512 - 0) + 1 * ((i 1).val / 2560 - 0)
set_option backward.proofsInPublic true in
abbrev loc4Of (i : S49152x2560.Idx) : S512x2560.Idx := fun a => match a with
  | ⟨0, _⟩ => ⟨(i 0).val % 512, Nat.mod_lt _ (by decide)⟩
  | ⟨1, _⟩ => ⟨(i 1).val % 2560, Nat.mod_lt _ (by decide)⟩
abbrev pt4Of (i : S49152x2560.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v4_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 95
    ∧ 0 ≤ win0_4.index t (1 : Fin 2) ∧ win0_4.index t (1 : Fin 2) ≤ 0
    ∧ 1 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 96) (q1 : Fin 1) : Fin grid0.N :=
  ⟨1 * q0.val + 1 * q1.val, lt_of_lt_of_eq (by omega) N_0.symm⟩
theorem idx_onto4 : ∀ (q0 : Fin 96) (q1 : Fin 1), ∃ t : Fin cfg0.N, (cfg0.win 4).flush t = true ∧ win0_4.index t = ![q0.val + 0, q1.val + 0] :=
  fun q0 q1 => ⟨onto4Pt q0 q1, (by decide +kernel : ∀ (q0 : Fin 96) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 512 := (y 0).isLt
  have hy1 : (y 1).val < 2560 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 2560 + 1 * (y 1).val := rfl
  have hr : run4Of (((cfg0.win 4).blk t).view.emb y) = t.val := by
    show 1 * ((((cfg0.win 4).blk t).view.emb y 0).val / 512 - 0) + 1 * ((((cfg0.win 4).blk t).view.emb y 1).val / 2560 - 0) = _
    rw [hb0, hb1]
    rw [show (win0_4.index t (0 : Fin 2) * 512 + 1 * (y 0).val) / 512 = win0_4.index t (0 : Fin 2) from by omega]; rw [show (win0_4.index t (1 : Fin 2) * 2560 + 1 * (y 1).val) / 2560 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 512 = (y 0).val; rw [hb0]; omega
    | ⟨1, _⟩ => show (((cfg0.win 4).blk t).view.emb y 1).val % 2560 = (y 1).val; rw [hb1]; omega
  have hp : pt4Of (((cfg0.win 4).blk t).view.emb y) = t.val := by
    exact hr
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S49152x2560.Idx) :
    i ∈ ((cfg0.win 4).blk t).view.set ↔ ∀ a : Fin 2, win0_4.index t a * S512x2560.size a ≤ (i a).val ∧ (i a).val < win0_4.index t a * S512x2560.size a + S512x2560.size a := by
  show i ∈ ((View.whole main_v4_0).slice (win0_4.rect t)).set ↔ _
  rw [View.set_slice_whole, Rect.mem_set_unit]
  exact Iff.rfl

/-- THE COVERED INDICES: in some flushing point's block iff inside the box those blocks fill. -/
theorem covered_iff4 (i : S49152x2560.Idx) :
    (∃ t : Fin cfg0.N, (cfg0.win 4).flush t = true ∧ i ∈ ((cfg0.win 4).blk t).view.set) ↔ 0 ≤ (i 0).val ∧ (i 0).val < 49152 ∧ 0 ≤ (i 1).val ∧ (i 1).val < 2560 := by
  constructor
  · rintro ⟨t, -, hi⟩
    rw [mem_blk4] at hi
    have b0 : win0_4.index t (0 : Fin 2) * 512 ≤ (i 0).val ∧ (i 0).val < win0_4.index t (0 : Fin 2) * 512 + 512 := hi 0
    have b1 : win0_4.index t (1 : Fin 2) * 2560 ≤ (i 1).val ∧ (i 1).val < win0_4.index t (1 : Fin 2) * 2560 + 2560 := hi 1
    obtain ⟨e0, e1, e2⟩ := idx_facts4 t
    omega
  · intro h
    have hi0 : (i 0).val < 49152 := (i 0).isLt
    have hi1 : (i 1).val < 2560 := (i 1).isLt
    obtain ⟨t, hft, ht⟩ := idx_onto4 ⟨(i 0).val / 512 - 0, by omega⟩ ⟨(i 1).val / 2560 - 0, by omega⟩
    have q0 : win0_4.index t (0 : Fin 2) = (i 0).val / 512 - 0 + 0 := congrFun ht 0
    have q1 : win0_4.index t (1 : Fin 2) = (i 1).val / 2560 - 0 + 0 := congrFun ht 1
    refine ⟨t, hft, ?_⟩
    rw [mem_blk4]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 2560 ≤ (i 1).val ∧ (i 1).val < win0_4.index t (1 : Fin 2) * 2560 + 2560; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 49152 := (i 0).isLt; have h1 : (i 1).val < 2560 := (i 1).isLt; omega))

/-! ## Output window 5 -/

/-- The block of the array that holds index `i`, numbered in the order the points write the blocks back (one per point),
    `i`'s place in it, and the point that writes it back. -/
abbrev run5Of (i : S2560x49152.Idx) : ℕ := 96 * ((i 0).val / 2560 - 0) + 1 * ((i 1).val / 512 - 0)
set_option backward.proofsInPublic true in
abbrev loc5Of (i : S2560x49152.Idx) : S2560x512.Idx := fun a => match a with
  | ⟨0, _⟩ => ⟨(i 0).val % 2560, Nat.mod_lt _ (by decide)⟩
  | ⟨1, _⟩ => ⟨(i 1).val % 512, Nat.mod_lt _ (by decide)⟩
abbrev pt5Of (i : S2560x49152.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v4_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 95
    ∧ 96 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 1) (q1 : Fin 96) : Fin grid0.N :=
  ⟨96 * q0.val + 1 * q1.val, lt_of_lt_of_eq (by omega) N_0.symm⟩
theorem idx_onto5 : ∀ (q0 : Fin 1) (q1 : Fin 96), ∃ t : Fin cfg0.N, (cfg0.win 5).flush t = true ∧ win0_5.index t = ![q0.val + 0, q1.val + 0] :=
  fun q0 q1 => ⟨onto5Pt q0 q1, (by decide +kernel : ∀ (q0 : Fin 1) (q1 : Fin 96), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 2560 := (y 0).isLt
  have hy1 : (y 1).val < 512 := (y 1).isLt
  have hb0 : (((cfg0.win 5).blk t).view.emb y 0).val = win0_5.index t (0 : Fin 2) * 2560 + 1 * (y 0).val := rfl
  have hb1 : (((cfg0.win 5).blk t).view.emb y 1).val = win0_5.index t (1 : Fin 2) * 512 + 1 * (y 1).val := rfl
  have hr : run5Of (((cfg0.win 5).blk t).view.emb y) = t.val := by
    show 96 * ((((cfg0.win 5).blk t).view.emb y 0).val / 2560 - 0) + 1 * ((((cfg0.win 5).blk t).view.emb y 1).val / 512 - 0) = _
    rw [hb0, hb1]
    rw [show (win0_5.index t (0 : Fin 2) * 2560 + 1 * (y 0).val) / 2560 = win0_5.index t (0 : Fin 2) from by omega]; rw [show (win0_5.index t (1 : Fin 2) * 512 + 1 * (y 1).val) / 512 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 2560 = (y 0).val; rw [hb0]; omega
    | ⟨1, _⟩ => show (((cfg0.win 5).blk t).view.emb y 1).val % 512 = (y 1).val; rw [hb1]; omega
  have hp : pt5Of (((cfg0.win 5).blk t).view.emb y) = t.val := by
    exact hr
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2560x49152.Idx) :
    i ∈ ((cfg0.win 5).blk t).view.set ↔ ∀ a : Fin 2, win0_5.index t a * S2560x512.size a ≤ (i a).val ∧ (i a).val < win0_5.index t a * S2560x512.size a + S2560x512.size a := by
  show i ∈ ((View.whole main_v4_1).slice (win0_5.rect t)).set ↔ _
  rw [View.set_slice_whole, Rect.mem_set_unit]
  exact Iff.rfl

/-- THE COVERED INDICES: in some flushing point's block iff inside the box those blocks fill. -/
theorem covered_iff5 (i : S2560x49152.Idx) :
    (∃ t : Fin cfg0.N, (cfg0.win 5).flush t = true ∧ i ∈ ((cfg0.win 5).blk t).view.set) ↔ 0 ≤ (i 0).val ∧ (i 0).val < 2560 ∧ 0 ≤ (i 1).val ∧ (i 1).val < 49152 := by
  constructor
  · rintro ⟨t, -, hi⟩
    rw [mem_blk5] at hi
    have b0 : win0_5.index t (0 : Fin 2) * 2560 ≤ (i 0).val ∧ (i 0).val < win0_5.index t (0 : Fin 2) * 2560 + 2560 := hi 0
    have b1 : win0_5.index t (1 : Fin 2) * 512 ≤ (i 1).val ∧ (i 1).val < win0_5.index t (1 : Fin 2) * 512 + 512 := hi 1
    obtain ⟨e0, e1, e2⟩ := idx_facts5 t
    omega
  · intro h
    have hi0 : (i 0).val < 2560 := (i 0).isLt
    have hi1 : (i 1).val < 49152 := (i 1).isLt
    obtain ⟨t, hft, ht⟩ := idx_onto5 ⟨(i 0).val / 2560 - 0, by omega⟩ ⟨(i 1).val / 512 - 0, by omega⟩
    have q0 : win0_5.index t (0 : Fin 2) = (i 0).val / 2560 - 0 + 0 := congrFun ht 0
    have q1 : win0_5.index t (1 : Fin 2) = (i 1).val / 512 - 0 + 0 := congrFun ht 1
    refine ⟨t, hft, ?_⟩
    rw [mem_blk5]
    intro a
    match a with
    | ⟨0, _⟩ => show win0_5.index t (0 : Fin 2) * 2560 ≤ (i 0).val ∧ (i 0).val < win0_5.index t (0 : Fin 2) * 2560 + 2560; omega
    | ⟨1, _⟩ => show win0_5.index t (1 : Fin 2) * 512 ≤ (i 1).val ∧ (i 1).val < win0_5.index t (1 : Fin 2) * 512 + 512; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2560 := (i 0).isLt; have h1 : (i 1).val < 49152 := (i 1).isLt; omega))

/-! ## Output window 6 -/

/-- The block of the array that holds index `i`, numbered in the order the points write the blocks back (one every 96 points),
    `i`'s place in it, and the point that writes it back (the last of its 96). -/
abbrev run6Of (i : S1x1.Idx) : ℕ := 1 * ((i 0).val / 1 - 0) + 1 * ((i 1).val / 1 - 0)
set_option backward.proofsInPublic true in
abbrev loc6Of (i : S1x1.Idx) : S1x1.Idx := fun a => match a with
  | ⟨0, _⟩ => ⟨(i 0).val % 1, Nat.mod_lt _ (by decide)⟩
  | ⟨1, _⟩ => ⟨(i 1).val % 1, Nat.mod_lt _ (by decide)⟩
abbrev pt6Of (i : S1x1.Idx) : ℕ := 96 * run6Of i + 95

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v4_2) := fun i =>
  if h : pt6Of i < cfg0.N then
    (Pipeline.accAt (fun n h => stAt0 m c n h junk0) (stAt0 m c) 0 (pt6Of i) (by omega)).2.2.1 (loc6Of i)
  else V m c (Pipeline.arrRef spec0 6) i

/-- The printed index map, decided over the grid: output window 6's block indices stay in the box, and the block number
    read off them is the point's (`t / 96`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 96 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨96 * (1 * q0.val + 1 * q1.val) + 95, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 96 = 95 := (flush0_6 t).mp hf
  obtain ⟨e0, e1, e2⟩ := idx_facts6 t
  funext y
  have hy0 : (y 0).val < 1 := (y 0).isLt
  have hy1 : (y 1).val < 1 := (y 1).isLt
  have hb0 : (((cfg0.win 6).blk t).view.emb y 0).val = win0_6.index t (0 : Fin 2) * 1 + 1 * (y 0).val := rfl
  have hb1 : (((cfg0.win 6).blk t).view.emb y 1).val = win0_6.index t (1 : Fin 2) * 1 + 1 * (y 1).val := rfl
  have hr : run6Of (((cfg0.win 6).blk t).view.emb y) = t.val / 96 := by
    show 1 * ((((cfg0.win 6).blk t).view.emb y 0).val / 1 - 0) + 1 * ((((cfg0.win 6).blk t).view.emb y 1).val / 1 - 0) = _
    rw [hb0, hb1]
    rw [show (win0_6.index t (0 : Fin 2) * 1 + 1 * (y 0).val) / 1 = win0_6.index t (0 : Fin 2) from by omega]; rw [show (win0_6.index t (1 : Fin 2) * 1 + 1 * (y 1).val) / 1 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 1 = (y 1).val; rw [hb1]; omega
  have hp : pt6Of (((cfg0.win 6).blk t).view.emb y) = t.val := by
    show 96 * run6Of (((cfg0.win 6).blk t).view.emb y) + 95 = _
    rw [hr]; have := Nat.div_add_mod t.val 96; omega
  show (Pipeline.accAt (fun n h => stAt0 m c n h junk0) (stAt0 m c) 0 t.val _).2.2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v4_2).slice (win0_6.rect t)).set ↔ _
  rw [View.set_slice_whole, Rect.mem_set_unit]
  exact Iff.rfl

/-- THE COVERED INDICES: in some flushing point's block iff inside the box those blocks fill. -/
theorem covered_iff6 (i : S1x1.Idx) :
    (∃ t : Fin cfg0.N, (cfg0.win 6).flush t = true ∧ i ∈ ((cfg0.win 6).blk t).view.set) ↔ 0 ≤ (i 0).val ∧ (i 0).val < 1 ∧ 0 ≤ (i 1).val ∧ (i 1).val < 1 := by
  constructor
  · rintro ⟨t, -, hi⟩
    rw [mem_blk6] at hi
    have b0 : win0_6.index t (0 : Fin 2) * 1 ≤ (i 0).val ∧ (i 0).val < win0_6.index t (0 : Fin 2) * 1 + 1 := hi 0
    have b1 : win0_6.index t (1 : Fin 2) * 1 ≤ (i 1).val ∧ (i 1).val < win0_6.index t (1 : Fin 2) * 1 + 1 := hi 1
    obtain ⟨e0, e1, e2⟩ := idx_facts6 t
    omega
  · intro h
    have hi0 : (i 0).val < 1 := (i 0).isLt
    have hi1 : (i 1).val < 1 := (i 1).isLt
    obtain ⟨t, hft, ht⟩ := idx_onto6 ⟨(i 0).val / 1 - 0, by omega⟩ ⟨(i 1).val / 1 - 0, by omega⟩
    have q0 : win0_6.index t (0 : Fin 2) = (i 0).val / 1 - 0 + 0 := congrFun ht 0
    have q1 : win0_6.index t (1 : Fin 2) = (i 1).val / 1 - 0 + 0 := congrFun ht 1
    refine ⟨t, hft, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 1 ≤ (i 1).val ∧ (i 1).val < win0_6.index t (1 : Fin 2) * 1 + 1; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1 := (i 0).isLt; have h1 : (i 1).val < 1 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 95 (lt_of_lt_of_eq (by decide) N_0.symm)).2.2.1 := by
  funext i
  have hi0 : (i 0).val < 1 := (i 0).isLt
  have hi1 : (i 1).val < 1 := (i 1).isLt
  have hp : pt6Of i = 95 := by
    show 96 * (1 * ((i 0).val / 1 - 0) + 1 * ((i 1).val / 1 - 0)) + 95 = _
    omega
  have hl : loc6Of i = i := by
    funext a; apply Fin.ext
    match a with
    | ⟨0, _⟩ => show (i 0).val % 1 = (i 0).val; omega
    | ⟨1, _⟩ => show (i 1).val % 1 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one every 96 points),
    `i`'s place in it, and the point that writes it back (the last of its 96). -/
abbrev run7Of (i : S1x1.Idx) : ℕ := 1 * ((i 0).val / 1 - 0) + 1 * ((i 1).val / 1 - 0)
set_option backward.proofsInPublic true in
abbrev loc7Of (i : S1x1.Idx) : S1x1.Idx := fun a => match a with
  | ⟨0, _⟩ => ⟨(i 0).val % 1, Nat.mod_lt _ (by decide)⟩
  | ⟨1, _⟩ => ⟨(i 1).val % 1, Nat.mod_lt _ (by decide)⟩
abbrev pt7Of (i : S1x1.Idx) : ℕ := 96 * run7Of i + 95

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v4_3) := fun i =>
  if h : pt7Of i < cfg0.N then
    (Pipeline.accAt (fun n h => stAt0 m c n h junk0) (stAt0 m c) 0 (pt7Of i) (by omega)).2.2.2.1 (loc7Of i)
  else V m c (Pipeline.arrRef spec0 7) i

/-- The printed index map, decided over the grid: output window 7's block indices stay in the box, and the block number
    read off them is the point's (`t / 96`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 96 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨96 * (1 * q0.val + 1 * q1.val) + 95, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 96 = 95 := (flush0_7 t).mp hf
  obtain ⟨e0, e1, e2⟩ := idx_facts7 t
  funext y
  have hy0 : (y 0).val < 1 := (y 0).isLt
  have hy1 : (y 1).val < 1 := (y 1).isLt
  have hb0 : (((cfg0.win 7).blk t).view.emb y 0).val = win0_7.index t (0 : Fin 2) * 1 + 1 * (y 0).val := rfl
  have hb1 : (((cfg0.win 7).blk t).view.emb y 1).val = win0_7.index t (1 : Fin 2) * 1 + 1 * (y 1).val := rfl
  have hr : run7Of (((cfg0.win 7).blk t).view.emb y) = t.val / 96 := by
    show 1 * ((((cfg0.win 7).blk t).view.emb y 0).val / 1 - 0) + 1 * ((((cfg0.win 7).blk t).view.emb y 1).val / 1 - 0) = _
    rw [hb0, hb1]
    rw [show (win0_7.index t (0 : Fin 2) * 1 + 1 * (y 0).val) / 1 = win0_7.index t (0 : Fin 2) from by omega]; rw [show (win0_7.index t (1 : Fin 2) * 1 + 1 * (y 1).val) / 1 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 1 = (y 1).val; rw [hb1]; omega
  have hp : pt7Of (((cfg0.win 7).blk t).view.emb y) = t.val := by
    show 96 * run7Of (((cfg0.win 7).blk t).view.emb y) + 95 = _
    rw [hr]; have := Nat.div_add_mod t.val 96; omega
  show (Pipeline.accAt (fun n h => stAt0 m c n h junk0) (stAt0 m c) 0 t.val _).2.2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v4_3).slice (win0_7.rect t)).set ↔ _
  rw [View.set_slice_whole, Rect.mem_set_unit]
  exact Iff.rfl

/-- THE COVERED INDICES: in some flushing point's block iff inside the box those blocks fill. -/
theorem covered_iff7 (i : S1x1.Idx) :
    (∃ t : Fin cfg0.N, (cfg0.win 7).flush t = true ∧ i ∈ ((cfg0.win 7).blk t).view.set) ↔ 0 ≤ (i 0).val ∧ (i 0).val < 1 ∧ 0 ≤ (i 1).val ∧ (i 1).val < 1 := by
  constructor
  · rintro ⟨t, -, hi⟩
    rw [mem_blk7] at hi
    have b0 : win0_7.index t (0 : Fin 2) * 1 ≤ (i 0).val ∧ (i 0).val < win0_7.index t (0 : Fin 2) * 1 + 1 := hi 0
    have b1 : win0_7.index t (1 : Fin 2) * 1 ≤ (i 1).val ∧ (i 1).val < win0_7.index t (1 : Fin 2) * 1 + 1 := hi 1
    obtain ⟨e0, e1, e2⟩ := idx_facts7 t
    omega
  · intro h
    have hi0 : (i 0).val < 1 := (i 0).isLt
    have hi1 : (i 1).val < 1 := (i 1).isLt
    obtain ⟨t, hft, ht⟩ := idx_onto7 ⟨(i 0).val / 1 - 0, by omega⟩ ⟨(i 1).val / 1 - 0, by omega⟩
    have q0 : win0_7.index t (0 : Fin 2) = (i 0).val / 1 - 0 + 0 := congrFun ht 0
    have q1 : win0_7.index t (1 : Fin 2) = (i 1).val / 1 - 0 + 0 := congrFun ht 1
    refine ⟨t, hft, ?_⟩
    rw [mem_blk7]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1 ≤ (i 1).val ∧ (i 1).val < win0_7.index t (1 : Fin 2) * 1 + 1; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1 := (i 0).isLt; have h1 : (i 1).val < 1 := (i 1).isLt; omega))

/-- Output 7 is written back ONCE, at the last point, and its block is its array: the array after the run is output 7's
    component of the fold over the whole grid — where a hand proof over this window starts. -/
theorem G7_last (c : Dev nD) :
    G7 m c = (Pipeline.accAt (fun n h => stAt0 m c n h junk0) (stAt0 m c) 0 95 (lt_of_lt_of_eq (by decide) N_0.symm)).2.2.2.1 := by
  funext i
  have hi0 : (i 0).val < 1 := (i 0).isLt
  have hi1 : (i 1).val < 1 := (i 1).isLt
  have hp : pt7Of i = 95 := by
    show 96 * (1 * ((i 0).val / 1 - 0) + 1 * ((i 1).val / 1 - 0)) + 95 = _
    omega
  have hl : loc7Of i = i := by
    funext a; apply Fin.ext
    match a with
    | ⟨0, _⟩ => show (i 0).val % 1 = (i 0).val; omega
    | ⟨1, _⟩ => show (i 1).val % 1 = (i 1).val; omega
  unfold G7
  rw [dif_pos (by rw [hp]; exact lt_of_lt_of_eq (by decide) N_0.symm), hl, fold0_congr m c _ _ _ _ hp]

/-! ## Output window 8 -/

/-- The block of the array that holds index `i`, numbered in the order the points write the blocks back (one per point),
    `i`'s place in it, and the point that writes it back. -/
abbrev run8Of (i : S96x4x128.Idx) : ℕ := 1 * ((i 0).val / 1 - 0) + 1 * ((i 1).val / 4 - 0) + 1 * ((i 2).val / 128 - 0)
set_option backward.proofsInPublic true in
abbrev loc8Of (i : S96x4x128.Idx) : S1x4x128.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 128, Nat.mod_lt _ (by decide)⟩
abbrev pt8Of (i : S96x4x128.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v4_4) := fun i =>
  if h : pt8Of i < cfg0.N then
    (Pipeline.accAt (fun n h => stAt0 m c n h junk0) (stAt0 m c) 0 (pt8Of i) (by omega)).2.2.2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 95
    ∧ 0 ≤ win0_8.index t (1 : Fin 3) ∧ win0_8.index t (1 : Fin 3) ≤ 0
    ∧ 0 ≤ win0_8.index t (2 : Fin 3) ∧ win0_8.index t (2 : Fin 3) ≤ 0
    ∧ 1 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 96) (q1 : Fin 1) (q2 : Fin 1) : Fin grid0.N :=
  ⟨1 * q0.val + 1 * q1.val + 1 * q2.val, lt_of_lt_of_eq (by omega) N_0.symm⟩
theorem idx_onto8 : ∀ (q0 : Fin 96) (q1 : Fin 1) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 96) (q1 : Fin 1) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 4 := (y 1).isLt
  have hy2 : (y 2).val < 128 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 4 + 1 * (y 1).val := rfl
  have hb2 : (((cfg0.win 8).blk t).view.emb y 2).val = win0_8.index t (2 : Fin 3) * 128 + 1 * (y 2).val := rfl
  have hr : run8Of (((cfg0.win 8).blk t).view.emb y) = t.val := by
    show 1 * ((((cfg0.win 8).blk t).view.emb y 0).val / 1 - 0) + 1 * ((((cfg0.win 8).blk t).view.emb y 1).val / 4 - 0) + 1 * ((((cfg0.win 8).blk t).view.emb y 2).val / 128 - 0) = _
    rw [hb0, hb1, hb2]
    rw [show (win0_8.index t (0 : Fin 3) * 1 + 1 * (y 0).val) / 1 = win0_8.index t (0 : Fin 3) from by omega]; rw [show (win0_8.index t (1 : Fin 3) * 4 + 1 * (y 1).val) / 4 = win0_8.index t (1 : Fin 3) from by omega]; rw [show (win0_8.index t (2 : Fin 3) * 128 + 1 * (y 2).val) / 128 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 4 = (y 1).val; rw [hb1]; omega
    | ⟨2, _⟩ => show (((cfg0.win 8).blk t).view.emb y 2).val % 128 = (y 2).val; rw [hb2]; omega
  have hp : pt8Of (((cfg0.win 8).blk t).view.emb y) = t.val := by
    exact hr
  show (Pipeline.accAt (fun n h => stAt0 m c n h junk0) (stAt0 m c) 0 t.val _).2.2.2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S96x4x128.Idx) :
    i ∈ ((cfg0.win 8).blk t).view.set ↔ ∀ a : Fin 3, win0_8.index t a * S1x4x128.size a ≤ (i a).val ∧ (i a).val < win0_8.index t a * S1x4x128.size a + S1x4x128.size a := by
  show i ∈ ((View.whole main_v4_4).slice (win0_8.rect t)).set ↔ _
  rw [View.set_slice_whole, Rect.mem_set_unit]
  exact Iff.rfl

/-- THE COVERED INDICES: in some flushing point's block iff inside the box those blocks fill. -/
theorem covered_iff8 (i : S96x4x128.Idx) :
    (∃ t : Fin cfg0.N, (cfg0.win 8).flush t = true ∧ i ∈ ((cfg0.win 8).blk t).view.set) ↔ 0 ≤ (i 0).val ∧ (i 0).val < 96 ∧ 0 ≤ (i 1).val ∧ (i 1).val < 4 ∧ 0 ≤ (i 2).val ∧ (i 2).val < 128 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 4 ≤ (i 1).val ∧ (i 1).val < win0_8.index t (1 : Fin 3) * 4 + 4 := hi 1
    have b2 : win0_8.index t (2 : Fin 3) * 128 ≤ (i 2).val ∧ (i 2).val < win0_8.index t (2 : Fin 3) * 128 + 128 := hi 2
    obtain ⟨e0, e1, e2, e3⟩ := idx_facts8 t
    omega
  · intro h
    have hi0 : (i 0).val < 96 := (i 0).isLt
    have hi1 : (i 1).val < 4 := (i 1).isLt
    have hi2 : (i 2).val < 128 := (i 2).isLt
    obtain ⟨t, hft, ht⟩ := idx_onto8 ⟨(i 0).val / 1 - 0, by omega⟩ ⟨(i 1).val / 4 - 0, by omega⟩ ⟨(i 2).val / 128 - 0, by omega⟩
    have q0 : win0_8.index t (0 : Fin 3) = (i 0).val / 1 - 0 + 0 := congrFun ht 0
    have q1 : win0_8.index t (1 : Fin 3) = (i 1).val / 4 - 0 + 0 := congrFun ht 1
    have q2 : win0_8.index t (2 : Fin 3) = (i 2).val / 128 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 4 ≤ (i 1).val ∧ (i 1).val < win0_8.index t (1 : Fin 3) * 4 + 4; omega
    | ⟨2, _⟩ => show win0_8.index t (2 : Fin 3) * 128 ≤ (i 2).val ∧ (i 2).val < win0_8.index t (2 : Fin 3) * 128 + 128; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 96 := (i 0).isLt; have h1 : (i 1).val < 4 := (i 1).isLt; have h2 : (i 2).val < 128 := (i 2).isLt; omega))

/-! ## Output window 9 -/

/-- The block of the array that holds index `i`, numbered in the order the points write the blocks back (one per point),
    `i`'s place in it, and the point that writes it back. -/
abbrev run9Of (i : S96x4x128.Idx) : ℕ := 1 * ((i 0).val / 1 - 0) + 1 * ((i 1).val / 4 - 0) + 1 * ((i 2).val / 128 - 0)
set_option backward.proofsInPublic true in
abbrev loc9Of (i : S96x4x128.Idx) : S1x4x128.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 128, Nat.mod_lt _ (by decide)⟩
abbrev pt9Of (i : S96x4x128.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v4_5) := fun i =>
  if h : pt9Of i < cfg0.N then
    (Pipeline.accAt (fun n h => stAt0 m c n h junk0) (stAt0 m c) 0 (pt9Of i) (by omega)).2.2.2.2.2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 95
    ∧ 0 ≤ win0_9.index t (1 : Fin 3) ∧ win0_9.index t (1 : Fin 3) ≤ 0
    ∧ 0 ≤ win0_9.index t (2 : Fin 3) ∧ win0_9.index t (2 : Fin 3) ≤ 0
    ∧ 1 * (win0_9.index t (0 : Fin 3) - 0) + 1 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 96) (q1 : Fin 1) (q2 : Fin 1) : Fin grid0.N :=
  ⟨1 * q0.val + 1 * q1.val + 1 * q2.val, lt_of_lt_of_eq (by omega) N_0.symm⟩
theorem idx_onto9 : ∀ (q0 : Fin 96) (q1 : Fin 1) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 96) (q1 : Fin 1) (q2 : Fin 1), win0_9.flush (onto9Pt q0 q1 q2) = true ∧ win0_9.index (onto9Pt q0 q1 q2) = ![q0.val + 0, q1.val + 0, q2.val + 0]) q0 q1 q2⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2, e3⟩ := idx_facts9 t
  funext y
  have hy0 : (y 0).val < 1 := (y 0).isLt
  have hy1 : (y 1).val < 4 := (y 1).isLt
  have hy2 : (y 2).val < 128 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 4 + 1 * (y 1).val := rfl
  have hb2 : (((cfg0.win 9).blk t).view.emb y 2).val = win0_9.index t (2 : Fin 3) * 128 + 1 * (y 2).val := rfl
  have hr : run9Of (((cfg0.win 9).blk t).view.emb y) = t.val := by
    show 1 * ((((cfg0.win 9).blk t).view.emb y 0).val / 1 - 0) + 1 * ((((cfg0.win 9).blk t).view.emb y 1).val / 4 - 0) + 1 * ((((cfg0.win 9).blk t).view.emb y 2).val / 128 - 0) = _
    rw [hb0, hb1, hb2]
    rw [show (win0_9.index t (0 : Fin 3) * 1 + 1 * (y 0).val) / 1 = win0_9.index t (0 : Fin 3) from by omega]; rw [show (win0_9.index t (1 : Fin 3) * 4 + 1 * (y 1).val) / 4 = win0_9.index t (1 : Fin 3) from by omega]; rw [show (win0_9.index t (2 : Fin 3) * 128 + 1 * (y 2).val) / 128 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 4 = (y 1).val; rw [hb1]; omega
    | ⟨2, _⟩ => show (((cfg0.win 9).blk t).view.emb y 2).val % 128 = (y 2).val; rw [hb2]; omega
  have hp : pt9Of (((cfg0.win 9).blk t).view.emb y) = t.val := by
    exact hr
  show (Pipeline.accAt (fun n h => stAt0 m c n h junk0) (stAt0 m c) 0 t.val _).2.2.2.2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S96x4x128.Idx) :
    i ∈ ((cfg0.win 9).blk t).view.set ↔ ∀ a : Fin 3, win0_9.index t a * S1x4x128.size a ≤ (i a).val ∧ (i a).val < win0_9.index t a * S1x4x128.size a + S1x4x128.size a := by
  show i ∈ ((View.whole main_v4_5).slice (win0_9.rect t)).set ↔ _
  rw [View.set_slice_whole, Rect.mem_set_unit]
  exact Iff.rfl

/-- THE COVERED INDICES: in some flushing point's block iff inside the box those blocks fill. -/
theorem covered_iff9 (i : S96x4x128.Idx) :
    (∃ t : Fin cfg0.N, (cfg0.win 9).flush t = true ∧ i ∈ ((cfg0.win 9).blk t).view.set) ↔ 0 ≤ (i 0).val ∧ (i 0).val < 96 ∧ 0 ≤ (i 1).val ∧ (i 1).val < 4 ∧ 0 ≤ (i 2).val ∧ (i 2).val < 128 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 4 ≤ (i 1).val ∧ (i 1).val < win0_9.index t (1 : Fin 3) * 4 + 4 := hi 1
    have b2 : win0_9.index t (2 : Fin 3) * 128 ≤ (i 2).val ∧ (i 2).val < win0_9.index t (2 : Fin 3) * 128 + 128 := hi 2
    obtain ⟨e0, e1, e2, e3⟩ := idx_facts9 t
    omega
  · intro h
    have hi0 : (i 0).val < 96 := (i 0).isLt
    have hi1 : (i 1).val < 4 := (i 1).isLt
    have hi2 : (i 2).val < 128 := (i 2).isLt
    obtain ⟨t, hft, ht⟩ := idx_onto9 ⟨(i 0).val / 1 - 0, by omega⟩ ⟨(i 1).val / 4 - 0, by omega⟩ ⟨(i 2).val / 128 - 0, by omega⟩
    have q0 : win0_9.index t (0 : Fin 3) = (i 0).val / 1 - 0 + 0 := congrFun ht 0
    have q1 : win0_9.index t (1 : Fin 3) = (i 1).val / 4 - 0 + 0 := congrFun ht 1
    have q2 : win0_9.index t (2 : Fin 3) = (i 2).val / 128 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 4 ≤ (i 1).val ∧ (i 1).val < win0_9.index t (1 : Fin 3) * 4 + 4; omega
    | ⟨2, _⟩ => show win0_9.index t (2 : Fin 3) * 128 ≤ (i 2).val ∧ (i 2).val < win0_9.index t (2 : Fin 3) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 96 := (i 0).isLt; have h1 : (i 1).val < 4 := (i 1).isLt; have h2 : (i 2).val < 128 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_v4_3) = G7 m c
      ∧ r.2.mem ((c : Thread nD τ).loc main_v4_4) = G8 m c
      ∧ r.2.mem ((c : Thread nD τ).loc main_v4_5) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c⟩)
    (run_main m ρ)

end Cert.KernelIdeal.Run

end
-- ==== Proof.Run.Printed.lean ====
/- The printed kernel's frame from the idealized program's: the two programs differ only in how the constant `1/2560`
   is spelled (a literal word in one, a named constant in the other), and the run of the idealized program is proved at
   every reading of the floats; read each named constant as the word it stands for, and the two programs are the same. -/
module

public import proofs.«01_k».proof.Defs
public import proofs.«01_k».proof.Proof.Gen.Kernel
public import proofs.«01_k».proof.Proof.Run.Arrays

@[expose] public section

noncomputable section

namespace Cert.Kernel.Run

open Idealize.ShloMosaic Idealize.SL.Sem

/-- At the words themselves, a named constant is the word it was printed with. -/
abbrev namedWord : Named Bits := ⟨fun _ _ {φ} b => Scalar.ofBits (F := Bits) φ b⟩

set_option maxRecDepth 65536 in
set_option maxHeartbeats 0 in
theorem cc0__body_eq : Cert.Kernel.cc0__body (F := Bits) = (letI := namedWord; Cert.KernelIdeal.cc0__body (F := Bits)) := rfl

set_option maxRecDepth 65536 in
set_option maxHeartbeats 0 in
theorem defs0_eq : Cert.Kernel.defs₀ (F := Bits) = (letI := namedWord; Cert.KernelIdeal.defs₀ (F := Bits)) := by
  unfold Cert.Kernel.defs₀ Cert.KernelIdeal.defs₀
  refine congrArg (Defs.onTc (nD := Cert.Kernel.nD) (τ := Cert.Kernel.τ) (sig := Cert.Kernel.sig)) (funext fun l => funext fun a => ?_)
  obtain ⟨l, hl⟩ := l
  match l, hl, a with
  | 0, _, (t, s) => exact rfl
  | l + 1, h, _ => exact absurd h (Nat.not_lt.2 (Nat.le_add_left _ _))

set_option maxRecDepth 65536 in
set_option maxHeartbeats 0 in
theorem defs_eq : Cert.Kernel.defs (F := Bits) = (letI := namedWord; Cert.KernelIdeal.defs (F := Bits)) :=
  congrArg (Pipeline.defs (Cert.Kernel.pcfgs (F := Bits))) defs0_eq

set_option maxRecDepth 65536 in
set_option maxHeartbeats 0 in
theorem main_eq : Cert.Kernel.main (F := Bits) = (letI := namedWord; Cert.KernelIdeal.main (F := Bits)) := rfl

set_option maxRecDepth 65536 in
set_option maxHeartbeats 0 in
/-- The printed kernel terminates, faults nowhere, leaves its arguments and its semaphores as they were. -/
theorem quiescent : Cert.quiescent_Kernel (hKernel := Cert.Kernel.Gen.facts) := by
  intro m ρ _
  rw [defs_eq, main_eq]
  letI := namedWord
  exact Cert.KernelIdeal.Run.frame (F := Bits) m ρ

end Cert.Kernel.Run

end
-- ==== Proof.Value.Consts.lean ====
/- The constants of both programs as extended reals. -/
module

public import proofs.«01_k».proof.KernelIdeal
public import Idealize.ShloMosaic.Lib.Pointwise

@[expose] public section

noncomputable section

namespace Cert.Consts

open Idealize.ShloMosaic

theorem inv_d : Named.named (F := Ideal) (φ := .f32) Cert.KernelIdeal.κ "inv_d" 0x39CCCCCD#32 = ((1 / 2560 : ℝ) : EReal) :=
  IdealRules.named_const.ideal_named_scalar _ _ _ _ rfl
theorem width : Ideal.ofBits .f32 0x45200000#32 = ((2560 : ℝ) : EReal) := by
  simp [Ideal.ofBits, Ideal.ieee, -EReal.coe_mul]; norm_num
theorem zero : Ideal.ofBits .f32 0x00000000#32 = 0 := by
  simp [Ideal.ofBits, Ideal.ieee, -EReal.coe_mul]
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem bot : Ideal.ofBits .f32 0xFF800000#32 = ⊥ := by
  simp [Ideal.ofBits, Ideal.ieee, -EReal.coe_mul]
theorem field (k : ℕ) (h : k < 256) : ((BitVec.ofNat 32 k <<< (23#32)).extractLsb' 23 8).toNat = k
    ∧ ((BitVec.ofNat 32 k <<< (23#32)).extractLsb' 0 23).toNat = 0
    ∧ ((BitVec.ofNat 32 k <<< (23#32)).extractLsb' 31 1 == 1#1) = false :=
  (by decide +kernel : ∀ k : Fin 256, ((BitVec.ofNat 32 k.val <<< (23#32)).extractLsb' 23 8).toNat = k.val
    ∧ ((BitVec.ofNat 32 k.val <<< (23#32)).extractLsb' 0 23).toNat = 0
    ∧ ((BitVec.ofNat 32 k.val <<< (23#32)).extractLsb' 31 1 == 1#1) = false) ⟨k, h⟩

/-- The word whose exponent field is `k` and whose other bits are clear. -/
def word (k : ℕ) : BitVec 32 := BitVec.ofNat 32 k <<< (23#32)

theorem read_word (k : ℕ) (w : BitVec 32) (h0 : 0 < k) (h1 : k < 255) (a : (w.extractLsb' 23 8).toNat = k)
    (b : (w.extractLsb' 0 23).toNat = 0) (c : (w.extractLsb' 31 1 == 1#1) = false) :
    Ideal.ieee 8 23 w = (((2 : ℝ) ^ ((k : ℤ) - 127) : ℝ) : EReal) := by
  have e : (2 : ℝ) ^ ((k : ℤ) - 127) = (2 : ℝ) ^ (23 : ℕ) * (2 : ℝ) ^ ((k : ℤ) - 127 - 23) := by
    rw [← zpow_natCast, ← zpow_add₀ (by norm_num)]; congr 1; push_cast; ring
  have n1 : ¬ k = 2 ^ 8 - 1 := by omega
  have n2 : ¬ k = 0 := by omega
  simp only [Ideal.ieee, a, b, c, if_neg n1, if_neg n2, e]
  norm_num

/-- It is a power of two. -/
theorem power (k : ℕ) (h0 : 0 < k) (h1 : k < 255) :
    Ideal.ofBits .f32 (word k) = (((2 : ℝ) ^ ((k : ℤ) - 127) : ℝ) : EReal) := by
  obtain ⟨a, b, c⟩ := field k (by omega)
  exact read_word k (word k) h0 h1 a b c

/-- Half the least normal number. -/
theorem least : Ideal.ofBits .f32 0x00400000#32 = (((2 : ℝ) ^ (-127 : ℤ) : ℝ) : EReal) := by
  have a : ((0x00400000#32 : BitVec 32).extractLsb' 23 8).toNat = 0 := by decide +kernel
  have b : ((0x00400000#32 : BitVec 32).extractLsb' 0 23).toNat = 2 ^ 22 := by decide +kernel
  have c : ((0x00400000#32 : BitVec 32).extractLsb' 31 1 == 1#1) = false := by decide +kernel
  show Ideal.ieee 8 23 (0x00400000#32 : BitVec 32) = _
  have e : (2 : ℝ) ^ (-127 : ℤ) = (2 : ℝ) ^ (22 : ℕ) * (2 : ℝ) ^ (-149 : ℤ) := by
    rw [← zpow_natCast, ← zpow_add₀ (by norm_num)]; norm_num
  simp only [Ideal.ieee, a, b, c, e]
  norm_num
theorem most : Ideal.ofBits .f32 0x7E800000#32 = (((2 : ℝ) ^ (126 : ℤ) : ℝ) : EReal) :=
  power 253 (by omega) (by omega)

/-- The word with every exponent bit set and no other is infinity. -/
theorem top : Ideal.ofBits .f32 (word 255) = ⊤ := by
  show Ideal.ofBits .f32 0x7F800000#32 = ⊤
  simp [Ideal.ofBits, Ideal.ieee, -EReal.coe_mul]

end Cert.Consts

end
-- ==== Proof.Value.Spec.lean ====
/- The layer normalisation of one row as extended reals: what both programs' results are stated with. -/
module

public import proofs.«01_k».proof.Proof.Value.Consts

@[expose] public section

noncomputable section

namespace Cert.Spec

open Idealize.ShloMosaic

/-- A row's mean. -/
def mean (v : Fin 2560 → EReal) : EReal := (∑ j, v j) * ((1 / 2560 : ℝ) : EReal)
/-- A row's entry less its mean. -/
def cen (v : Fin 2560 → EReal) (j : Fin 2560) : EReal := v j - mean v
/-- The reciprocal of a row's deviation. -/
def rdev (v : Fin 2560 → EReal) : EReal :=
  Ideal.rsqrt ((∑ j, cen v j * cen v j) * ((1 / 2560 : ℝ) : EReal) + Ideal.ofBits .f32 0x3727C5AC#32)
/-- A row's entry normalised, with a gain and a shift. -/
def nrm (v : Fin 2560 → EReal) (g b : EReal) (j : Fin 2560) : EReal := cen v j * rdev v * g + b
/-- Clipped to the code's range. -/
def clip (x : EReal) : EReal := min (Ideal.ofBits .f32 0x43E00000#32) (max (Ideal.ofBits .f32 0xC3E00000#32) x)
/-- The absolute value. -/
def mag (x : EReal) : EReal := FloatOps.absf (F := Ideal) (φ := .f32) x

theorem mag_eq (x : EReal) : mag x = max x (-x) := rfl

/-- Gain and shift both scaled: the entry is scaled. -/
theorem nrm_scaled (v : Fin 2560 → EReal) (g b : EReal) (j : Fin 2560) (r : ℝ) (hr : 0 ≤ r) :
    nrm v (g * (r : EReal)) (b * (r : EReal)) j = nrm v g b j * (r : EReal) := by
  unfold nrm
  rw [EReal.right_distrib_of_nonneg_of_ne_top (by exact_mod_cast hr) (EReal.coe_ne_top r)]
  simp only [mul_assoc]

theorem mag_scaled (x : EReal) (r : ℝ) (hr : 0 ≤ r) : mag (x * (r : EReal)) = mag x * (r : EReal) := by
  have hm : Monotone fun z : EReal => z * (r : EReal) := fun a b h => mul_le_mul_of_nonneg_right h (by exact_mod_cast hr)
  rw [mag_eq, mag_eq, ← EReal.neg_mul]
  exact (hm.map_max).symm

end Cert.Spec

end
-- ==== Proof.Value.Steps.lean ====
/- What one grid point computes, stated once for all three kinds of point: the block of rows taken apart into its four
   groups of 128 rows, each group's codes, transposed codes, means and reciprocal deviations, and the accumulator of
   absolute values after the four groups. -/
module

public import proofs.«01_k».proof.Proof.Run.Arrays
public import Idealize.ShloMosaic.Lib.WholeRead
public import Idealize.ShloMosaic.Lib.Pointwise

@[expose] public section

set_option maxRecDepth 16384
set_option maxHeartbeats 1000000

noncomputable section

namespace Cert.KernelIdeal.Steps

open Cert.KernelIdeal Cert.KernelIdeal.Gen Cert.KernelIdeal.Run
open Idealize.ShloMosaic

variable {F : FTy → Type} [FloatOps F] [Named F]

/-- Row `r` of group `k`, as a row of the block. -/
def lift (k : Fin 4) (r : Fin 128) : Fin 512 := ⟨128 * k.val + r.val, by omega⟩

/-- Row `128 k + r` of a block, read as row `r` of its group `k`. -/
def rowIx (k : Fin 4) (x : S128x2560.Idx) : S512x2560.Idx :=
  ix2 (n0 := 512) (n1 := 2560) (lift k (x 0)) (x 1)

/-- The group a row of a block lies in, and its place there. -/
def grp (r : Fin 512) : Fin 4 := ⟨r.val / 128, by omega⟩
def loc (r : Fin 512) : Fin 128 := ⟨r.val % 128, by omega⟩

/-- Group `k` of a block of rows: its rows `128 k … 128 k + 127`. -/
def sub (X : Vec F S512x2560 .bf16) (k : Fin 4) : Vec F S128x2560 .bf16 := fun x => X (rowIx k x)

/-- The codes of a block, row by row. -/
def blk4 (X : Vec F S512x2560 .bf16) (g b : Vec F S1x2560 .f32) : Vec F S512x2560 .fp8e4m3 := fun y =>
  k0_pay21 (sub X (grp (y 0))) g b
    (ix2 (n0 := 128) (n1 := 2560) (loc (y 0)) (y 1))

/-- The same codes transposed. -/
def blk5 (X : Vec F S512x2560 .bf16) (g b : Vec F S1x2560 .f32) : Vec F S2560x512 .fp8e4m3 := fun y =>
  k0_pay22 (k0_pay21 (sub X (grp (y 1))) g b)
    (ix2 (n0 := 2560) (n1 := 128) (y 0) (loc (y 1)))

/-- The means of a block's rows, four groups of 128. -/
def blk8 (X : Vec F S512x2560 .bf16) : Vec F S1x4x128 .f32 := fun y =>
  k0_pay23 (k0_pay16 (sub X (y 1)))
    (ix3 (n0 := 1) (n1 := 1) (n2 := 128) 0 0 (y 2))

/-- The reciprocal deviations of a block's rows, four groups of 128. -/
def blk9 (X : Vec F S512x2560 .bf16) : Vec F S1x4x128 .f32 := fun y =>
  k0_pay24 (k0_pay18 (sub X (y 1)))
    (ix3 (n0 := 1) (n1 := 1) (n2 := 128) 0 0 (y 2))

/-- The accumulator of absolute values after a block: its four groups one after another. -/
def accStep (X : Vec F S512x2560 .bf16) (g b : Vec F S1x2560 .f32) (a : Vec F S8x2560 .f32) : Vec F S8x2560 .f32 :=
  k0_pay20 (k0_pay20 (k0_pay20 (k0_pay20 a (sub X 0) g b) (sub X 1) g b) (sub X 2) g b) (sub X 3) g b

/-- The scale the first point computes from the history. -/
def scale0 (h : Vec F S1x16 .f32) : Vec F S1x1 .f32 := k0_pay10 (k0_pay5 h) (k0_pay6 h) (k0_pay7 h) k0_pay8

/-- Its reciprocal, computed beside it. -/
def inv0 (h : Vec F S1x16 .f32) : Vec F S1x1 .f32 := k0_pay11 (k0_pay5 h) (k0_pay6 h) (k0_pay7 h) k0_pay8

/-! ## The pieces of an output block are the block's own function -/

variable {X : Vec F S512x2560 .bf16} {g b : Vec F S1x2560 .f32}

theorem grp_eq {k : Fin 4} {r : Fin 128} {y : Fin 512} (h : y.val = 128 * k.val + r.val) : grp y = k :=
  Fin.ext (by have := r.isLt; show y.val / 128 = k.val; omega)

theorem loc_eq {k : Fin 4} {r : Fin 128} {y : Fin 512} (h : y.val = 128 * k.val + r.val) : loc y = r :=
  Fin.ext (by have := r.isLt; show y.val % 128 = r.val; omega)

theorem blk4_at (k : Fin 4) (x : S128x2560.Idx) (y : S512x2560.Idx) (h0 : (y 0).val = 128 * k.val + (x 0).val)
    (h1 : (y 1).val = (x 1).val) : k0_pay21 (sub X k) g b x = blk4 X g b y := by
  unfold blk4
  rw [grp_eq (r := x 0) h0, loc_eq (r := x 0) h0, show y 1 = x 1 from Fin.ext h1]
  exact congrArg _ (eq_ix2 (n0 := 128) (n1 := 2560) x)

theorem blk5_at (k : Fin 4) (x : S2560x128.Idx) (y : S2560x512.Idx) (h0 : (y 0).val = (x 0).val)
    (h1 : (y 1).val = 128 * k.val + (x 1).val) : k0_pay22 (k0_pay21 (sub X k) g b) x = blk5 X g b y := by
  unfold blk5
  rw [grp_eq (r := x 1) h1, loc_eq (r := x 1) h1, show y 0 = x 0 from Fin.ext h0]
  exact congrArg _ (eq_ix2 (n0 := 2560) (n1 := 128) x)

theorem ix3_zero (a b : Fin 1) (c : Fin 128) :
    ix3 (n0 := 1) (n1 := 1) (n2 := 128) a b c = ix3 (n0 := 1) (n1 := 1) (n2 := 128) 0 0 c := by
  rw [Subsingleton.elim a 0, Subsingleton.elim b 0]

theorem ix_one (x : S1x1x128.Idx) : x = ix3 (n0 := 1) (n1 := 1) (n2 := 128) 0 0 (x 2) :=
  (eq_ix3 (n0 := 1) (n1 := 1) (n2 := 128) x).trans (ix3_zero (x 0) (x 1) (x 2))

theorem blk8_at (k : Fin 4) (x : S1x1x128.Idx) (y : S1x4x128.Idx) (h1 : (y 1).val = k.val)
    (h2 : (y 2).val = (x 2).val) : k0_pay23 (k0_pay16 (sub X k)) x = blk8 X y := by
  unfold blk8
  rw [show y 1 = k from Fin.ext h1, show y 2 = x 2 from Fin.ext h2]
  exact congrArg _ (ix_one x)

theorem blk9_at (k : Fin 4) (x : S1x1x128.Idx) (y : S1x4x128.Idx) (h1 : (y 1).val = k.val)
    (h2 : (y 2).val = (x 2).val) : k0_pay24 (k0_pay18 (sub X k)) x = blk9 X y := by
  unfold blk9
  rw [show y 1 = k from Fin.ext h1, show y 2 = x 2 from Fin.ext h2]
  exact congrArg _ (ix_one x)

theorem pieces4 {κ : Kind} {sp : Space} (V : View sig κ sp S512x2560 .fp8e4m3) (w0 w1 w2 w3 : Vec F S128x2560 .fp8e4m3)
    (e0 : w0 = k0_pay21 (sub X 0) g b) (e1 : w1 = k0_pay21 (sub X 1) g b) (e2 : w2 = k0_pay21 (sub X 2) g b) (e3 : w3 = k0_pay21 (sub X 3) g b)
    (cov : ∀ y : S512x2560.Idx, ∃ pc ∈ ([⟨Rect.unit (s := S512x2560) ![384, 0] S128x2560.size inb_S512x2560_S128x2560_384_0, w3⟩, ⟨Rect.unit (s := S512x2560) ![256, 0] S128x2560.size inb_S512x2560_S128x2560_256_0, w2⟩, ⟨Rect.unit (s := S512x2560) ![128, 0] S128x2560.size inb_S512x2560_S128x2560_128_0, w1⟩, ⟨Rect.unit (s := S512x2560) ![0, 0] S128x2560.size inb_S512x2560_S128x2560_0_0, w0⟩] : List (View.Piece (Elt F) S512x2560 .fp8e4m3)), y ∈ pc.1.set) :
    V.read (Elt F) (V.writes (Elt F) V.junk [⟨Rect.unit (s := S512x2560) ![384, 0] S128x2560.size inb_S512x2560_S128x2560_384_0, w3⟩, ⟨Rect.unit (s := S512x2560) ![256, 0] S128x2560.size inb_S512x2560_S128x2560_256_0, w2⟩, ⟨Rect.unit (s := S512x2560) ![128, 0] S128x2560.size inb_S512x2560_S128x2560_128_0, w1⟩, ⟨Rect.unit (s := S512x2560) ![0, 0] S128x2560.size inb_S512x2560_S128x2560_0_0, w0⟩]) = blk4 X g b := by
  funext y
  rw [View.read_writes_junk_apply_eq_canon]
  refine View.canon_apply_of_pieces (blk4 X g b) _ ?_ y (cov y)
  intro p hp x
  simp only [List.mem_cons, List.not_mem_nil, or_false] at hp
  rcases hp with rfl | rfl | rfl | rfl
  · exact (congrFun e3 x).trans (blk4_at 3 x _ (by show 384 + 1 * (x 0).val = 128 * 3 + (x 0).val; omega) (by show 0 + 1 * (x 1).val = (x 1).val; omega))
  · exact (congrFun e2 x).trans (blk4_at 2 x _ (by show 256 + 1 * (x 0).val = 128 * 2 + (x 0).val; omega) (by show 0 + 1 * (x 1).val = (x 1).val; omega))
  · exact (congrFun e1 x).trans (blk4_at 1 x _ (by show 128 + 1 * (x 0).val = 128 * 1 + (x 0).val; omega) (by show 0 + 1 * (x 1).val = (x 1).val; omega))
  · exact (congrFun e0 x).trans (blk4_at 0 x _ (by show 0 + 1 * (x 0).val = 128 * 0 + (x 0).val; omega) (by show 0 + 1 * (x 1).val = (x 1).val; omega))

theorem pieces5 {κ : Kind} {sp : Space} (V : View sig κ sp S2560x512 .fp8e4m3) (w0 w1 w2 w3 : Vec F S2560x128 .fp8e4m3)
    (e0 : w0 = k0_pay22 (k0_pay21 (sub X 0) g b)) (e1 : w1 = k0_pay22 (k0_pay21 (sub X 1) g b)) (e2 : w2 = k0_pay22 (k0_pay21 (sub X 2) g b)) (e3 : w3 = k0_pay22 (k0_pay21 (sub X 3) g b))
    (cov : ∀ y : S2560x512.Idx, ∃ pc ∈ ([⟨Rect.unit (s := S2560x512) ![0, 384] S2560x128.size inb_S2560x512_S2560x128_0_384, w3⟩, ⟨Rect.unit (s := S2560x512) ![0, 256] S2560x128.size inb_S2560x512_S2560x128_0_256, w2⟩, ⟨Rect.unit (s := S2560x512) ![0, 128] S2560x128.size inb_S2560x512_S2560x128_0_128, w1⟩, ⟨Rect.unit (s := S2560x512) ![0, 0] S2560x128.size inb_S2560x512_S2560x128_0_0, w0⟩] : List (View.Piece (Elt F) S2560x512 .fp8e4m3)), y ∈ pc.1.set) :
    V.read (Elt F) (V.writes (Elt F) V.junk [⟨Rect.unit (s := S2560x512) ![0, 384] S2560x128.size inb_S2560x512_S2560x128_0_384, w3⟩, ⟨Rect.unit (s := S2560x512) ![0, 256] S2560x128.size inb_S2560x512_S2560x128_0_256, w2⟩, ⟨Rect.unit (s := S2560x512) ![0, 128] S2560x128.size inb_S2560x512_S2560x128_0_128, w1⟩, ⟨Rect.unit (s := S2560x512) ![0, 0] S2560x128.size inb_S2560x512_S2560x128_0_0, w0⟩]) = blk5 X g b := by
  funext y
  rw [View.read_writes_junk_apply_eq_canon]
  refine View.canon_apply_of_pieces (blk5 X g b) _ ?_ y (cov y)
  intro p hp x
  simp only [List.mem_cons, List.not_mem_nil, or_false] at hp
  rcases hp with rfl | rfl | rfl | rfl
  · exact (congrFun e3 x).trans (blk5_at 3 x _ (by show 0 + 1 * (x 0).val = (x 0).val; omega) (by show 384 + 1 * (x 1).val = 128 * 3 + (x 1).val; omega))
  · exact (congrFun e2 x).trans (blk5_at 2 x _ (by show 0 + 1 * (x 0).val = (x 0).val; omega) (by show 256 + 1 * (x 1).val = 128 * 2 + (x 1).val; omega))
  · exact (congrFun e1 x).trans (blk5_at 1 x _ (by show 0 + 1 * (x 0).val = (x 0).val; omega) (by show 128 + 1 * (x 1).val = 128 * 1 + (x 1).val; omega))
  · exact (congrFun e0 x).trans (blk5_at 0 x _ (by show 0 + 1 * (x 0).val = (x 0).val; omega) (by show 0 + 1 * (x 1).val = 128 * 0 + (x 1).val; omega))

theorem pieces8 {κ : Kind} {sp : Space} (V : View sig κ sp S1x4x128 .f32) (w0 w1 w2 w3 : Vec F S1x1x128 .f32)
    (e0 : w0 = k0_pay23 (k0_pay16 (sub X 0))) (e1 : w1 = k0_pay23 (k0_pay16 (sub X 1))) (e2 : w2 = k0_pay23 (k0_pay16 (sub X 2))) (e3 : w3 = k0_pay23 (k0_pay16 (sub X 3)))
    (cov : ∀ y : S1x4x128.Idx, ∃ pc ∈ ([⟨Rect.unit (s := S1x4x128) ![0, 3, 0] S1x1x128.size inb_S1x4x128_S1x1x128_0_3_0, w3⟩, ⟨Rect.unit (s := S1x4x128) ![0, 2, 0] S1x1x128.size inb_S1x4x128_S1x1x128_0_2_0, w2⟩, ⟨Rect.unit (s := S1x4x128) ![0, 1, 0] S1x1x128.size inb_S1x4x128_S1x1x128_0_1_0, w1⟩, ⟨Rect.unit (s := S1x4x128) ![0, 0, 0] S1x1x128.size inb_S1x4x128_S1x1x128_0_0_0, w0⟩] : List (View.Piece (Elt F) S1x4x128 .f32)), y ∈ pc.1.set) :
    V.read (Elt F) (V.writes (Elt F) V.junk [⟨Rect.unit (s := S1x4x128) ![0, 3, 0] S1x1x128.size inb_S1x4x128_S1x1x128_0_3_0, w3⟩, ⟨Rect.unit (s := S1x4x128) ![0, 2, 0] S1x1x128.size inb_S1x4x128_S1x1x128_0_2_0, w2⟩, ⟨Rect.unit (s := S1x4x128) ![0, 1, 0] S1x1x128.size inb_S1x4x128_S1x1x128_0_1_0, w1⟩, ⟨Rect.unit (s := S1x4x128) ![0, 0, 0] S1x1x128.size inb_S1x4x128_S1x1x128_0_0_0, w0⟩]) = blk8 X := by
  funext y
  rw [View.read_writes_junk_apply_eq_canon]
  refine View.canon_apply_of_pieces (blk8 X) _ ?_ y (cov y)
  intro p hp x
  simp only [List.mem_cons, List.not_mem_nil, or_false] at hp
  rcases hp with rfl | rfl | rfl | rfl
  · exact (congrFun e3 x).trans (blk8_at 3 x _ (by have : (x 1).val < 1 := (x 1).isLt; show 3 + 1 * (x 1).val = 3; omega) (by show 0 + 1 * (x 2).val = (x 2).val; omega))
  · exact (congrFun e2 x).trans (blk8_at 2 x _ (by have : (x 1).val < 1 := (x 1).isLt; show 2 + 1 * (x 1).val = 2; omega) (by show 0 + 1 * (x 2).val = (x 2).val; omega))
  · exact (congrFun e1 x).trans (blk8_at 1 x _ (by have : (x 1).val < 1 := (x 1).isLt; show 1 + 1 * (x 1).val = 1; omega) (by show 0 + 1 * (x 2).val = (x 2).val; omega))
  · exact (congrFun e0 x).trans (blk8_at 0 x _ (by have : (x 1).val < 1 := (x 1).isLt; show 0 + 1 * (x 1).val = 0; omega) (by show 0 + 1 * (x 2).val = (x 2).val; omega))

theorem pieces9 {κ : Kind} {sp : Space} (V : View sig κ sp S1x4x128 .f32) (w0 w1 w2 w3 : Vec F S1x1x128 .f32)
    (e0 : w0 = k0_pay24 (k0_pay18 (sub X 0))) (e1 : w1 = k0_pay24 (k0_pay18 (sub X 1))) (e2 : w2 = k0_pay24 (k0_pay18 (sub X 2))) (e3 : w3 = k0_pay24 (k0_pay18 (sub X 3)))
    (cov : ∀ y : S1x4x128.Idx, ∃ pc ∈ ([⟨Rect.unit (s := S1x4x128) ![0, 3, 0] S1x1x128.size inb_S1x4x128_S1x1x128_0_3_0, w3⟩, ⟨Rect.unit (s := S1x4x128) ![0, 2, 0] S1x1x128.size inb_S1x4x128_S1x1x128_0_2_0, w2⟩, ⟨Rect.unit (s := S1x4x128) ![0, 1, 0] S1x1x128.size inb_S1x4x128_S1x1x128_0_1_0, w1⟩, ⟨Rect.unit (s := S1x4x128) ![0, 0, 0] S1x1x128.size inb_S1x4x128_S1x1x128_0_0_0, w0⟩] : List (View.Piece (Elt F) S1x4x128 .f32)), y ∈ pc.1.set) :
    V.read (Elt F) (V.writes (Elt F) V.junk [⟨Rect.unit (s := S1x4x128) ![0, 3, 0] S1x1x128.size inb_S1x4x128_S1x1x128_0_3_0, w3⟩, ⟨Rect.unit (s := S1x4x128) ![0, 2, 0] S1x1x128.size inb_S1x4x128_S1x1x128_0_2_0, w2⟩, ⟨Rect.unit (s := S1x4x128) ![0, 1, 0] S1x1x128.size inb_S1x4x128_S1x1x128_0_1_0, w1⟩, ⟨Rect.unit (s := S1x4x128) ![0, 0, 0] S1x1x128.size inb_S1x4x128_S1x1x128_0_0_0, w0⟩]) = blk9 X := by
  funext y
  rw [View.read_writes_junk_apply_eq_canon]
  refine View.canon_apply_of_pieces (blk9 X) _ ?_ y (cov y)
  intro p hp x
  simp only [List.mem_cons, List.not_mem_nil, or_false] at hp
  rcases hp with rfl | rfl | rfl | rfl
  · exact (congrFun e3 x).trans (blk9_at 3 x _ (by have : (x 1).val < 1 := (x 1).isLt; show 3 + 1 * (x 1).val = 3; omega) (by show 0 + 1 * (x 2).val = (x 2).val; omega))
  · exact (congrFun e2 x).trans (blk9_at 2 x _ (by have : (x 1).val < 1 := (x 1).isLt; show 2 + 1 * (x 1).val = 2; omega) (by show 0 + 1 * (x 2).val = (x 2).val; omega))
  · exact (congrFun e1 x).trans (blk9_at 1 x _ (by have : (x 1).val < 1 := (x 1).isLt; show 1 + 1 * (x 1).val = 1; omega) (by show 0 + 1 * (x 2).val = (x 2).val; omega))
  · exact (congrFun e0 x).trans (blk9_at 0 x _ (by have : (x 1).val < 1 := (x 1).isLt; show 0 + 1 * (x 1).val = 0; omega) (by show 0 + 1 * (x 2).val = (x 2).val; omega))

/-! ## Loads -/

/-- A load of 128 rows of a whole block reads the group. -/
theorem readX {M : Memref sig .tc .vmem S512x2560 .bf16} (h : M.IsWhole) (X : Vec F S512x2560 .bf16) (k : Fin 4) {o : ℕ}
    (ho : o = 128 * k.val) (inb : ∀ a, (![o, 0] : Fin 2 → ℕ) a + S128x2560.size a ≤ S512x2560.size a) :
    View.readAt (Elt F) M.view (Rect.unit (s := S512x2560) ![o, 0] S128x2560.size inb).toLoadRect (h.unread X) = sub X k := by
  subst ho
  funext x
  rw [h.readAt_unread]
  show X _ = X _
  congr 1
  funext a
  match a with
  | ⟨0, _⟩ => exact Fin.ext (by show 128 * k.val + 1 * (x 0).val = 128 * k.val + (x 0).val; omega)
  | ⟨1, _⟩ => exact Fin.ext (by show 0 + 1 * (x 1).val = (x 1).val; omega)

/-- A load of a whole buffer of two axes reads what it holds. -/
theorem readW {S : Shape} {e : EltTy} {M : Memref sig .tc .vmem S e} (h : M.IsWhole) (X : Vec F S e) {off : Fin S.rank → ℕ}
    (ho : off = fun _ => 0) (inb : ∀ a, off a + S.size a ≤ S.size a) :
    View.readAt (Elt F) M.view (Rect.unit (s := S) off S.size inb).toLoadRect (h.unread X) = X := by
  subst ho
  funext x
  rw [h.readAt_unread]
  show X _ = X x
  congr 1
  funext a
  exact Fin.ext (by show 0 + 1 * (x a).val = (x a).val; omega)

theorem off2 : (![0, 0] : Fin 2 → ℕ) = fun _ => 0 := by decide

/-- One store of the whole buffer leaves its payload. -/
theorem wholePiece {κ : Kind} {sp : Space} {S : Shape} {e : EltTy} (V : View sig κ sp S e) {off : Fin S.rank → ℕ}
    (ho : off = fun _ => 0) (inb : ∀ a, off a + S.size a ≤ S.size a) (w : Vec F S e) (L : List (View.Piece (Elt F) S e)) :
    V.read (Elt F) (V.writes (Elt F) V.junk (⟨Rect.unit (s := S) off S.size inb, w⟩ :: L)) = w := by
  rw [View.read_writes_junk_eq_canon]
  exact View.canon_cons_unit_zero ho inb w L

/-! ## The payloads at equal operands -/

theorem cong3 {a a' : Vec F S8x2560 .f32} {s s' : Vec F S1x1 .f32} (ha : a = a') (hs : s = s') : k0_pay3 a s = k0_pay3 a' s' := by
  rw [ha, hs]
theorem cong10 {h h' : Vec F S1x16 .f32} (e : h = h') : k0_pay10 (k0_pay5 h) (k0_pay6 h) (k0_pay7 h) k0_pay8 = scale0 h' := by
  rw [e]; rfl
theorem cong11 {h h' : Vec F S1x16 .f32} (e : h = h') : k0_pay11 (k0_pay5 h) (k0_pay6 h) (k0_pay7 h) k0_pay8 = inv0 h' := by
  rw [e]; rfl
theorem cong12 {i i' : Vec F S1x1 .f32} {g g' : Vec F S1x2560 .f32} (hi : i = i') (hg : g = g') : k0_pay12 i g = k0_pay12 i' g' := by
  rw [hi, hg]
theorem cong13 {i i' : Vec F S1x1 .f32} {g g' : Vec F S1x2560 .f32} (hi : i = i') (hg : g = g') : k0_pay13 i g = k0_pay13 i' g' := by
  rw [hi, hg]
theorem cong20 {a a' : Vec F S8x2560 .f32} {v v' : Vec F S128x2560 .bf16} {g g' b b' : Vec F S1x2560 .f32} (ha : a = a') (hv : v = v')
    (hg : g = g') (hb : b = b') : k0_pay20 a v g b = k0_pay20 a' v' g' b' := by
  rw [ha, hv, hg, hb]
theorem cong21 {v v' : Vec F S128x2560 .bf16} {g g' b b' : Vec F S1x2560 .f32} (hv : v = v')
    (hg : g = g') (hb : b = b') : k0_pay21 v g b = k0_pay21 v' g' b' := by
  rw [hv, hg, hb]
theorem cong22 {w w' : Vec F S128x2560 .fp8e4m3} (e : w = w') : k0_pay22 w = k0_pay22 w' := by
  rw [e]
theorem cong23 {v v' : Vec F S128x2560 .bf16} (e : v = v') : k0_pay23 (k0_pay16 v) = k0_pay23 (k0_pay16 v') := by
  rw [e]
theorem cong24 {v v' : Vec F S128x2560 .bf16} (e : v = v') : k0_pay24 (k0_pay18 v) = k0_pay24 (k0_pay18 v') := by
  rw [e]

theorem pay2_eq (v : FVec F S8x2560 .f32) : k0_pay2 v = v := shapeCast_self _ _

section CaseA

/-! ## The points of case A -/

variable (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : cond0_0 i) (hc1 : ¬cond0_1 i) (x0 : Vec F S512x2560 .bf16) (x1 : Vec F S1x2560 .f32) (x2 : Vec F S1x2560 .f32) (x3 : Vec F S1x16 .f32)

theorem outA4 : out0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = blk4 x0 (k0_pay12 (inv0 x3) x1) (k0_pay13 (inv0 x3) x2) :=
  pieces4 VO0_4 _ _ _ _
    (cong21 (readX harg1 x0 0 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _))))
    (cong21 (readX harg1 x0 1 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _))))
    (cong21 (readX harg1 x0 2 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _))))
    (cong21 (readX harg1 x0 3 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _))))
    (cover0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem outA5 : out0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = blk5 x0 (k0_pay12 (inv0 x3) x1) (k0_pay13 (inv0 x3) x2) :=
  pieces5 VO0_5 _ _ _ _
    (cong22 (cong21 (readX harg1 x0 0 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))))
    (cong22 (cong21 (readX harg1 x0 1 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))))
    (cong22 (cong21 (readX harg1 x0 2 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))))
    (cong22 (cong21 (readX harg1 x0 3 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))))
    (cover0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem outA8 : out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = blk8 x0 :=
  pieces8 VO0_8 _ _ _ _
    (cong23 (readX harg1 x0 0 rfl _))
    (cong23 (readX harg1 x0 1 rfl _))
    (cong23 (readX harg1 x0 2 rfl _))
    (cong23 (readX harg1 x0 3 rfl _))
    (cover0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem outA9 : out0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = blk9 x0 :=
  pieces9 VO0_9 _ _ _ _
    (cong24 (readX harg1 x0 0 rfl _))
    (cong24 (readX harg1 x0 1 rfl _))
    (cong24 (readX harg1 x0 2 rfl _))
    (cong24 (readX harg1 x0 3 rfl _))
    (cover0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem soutA2 : sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = accStep x0 (k0_pay12 (inv0 x3) x1) (k0_pay13 (inv0 x3) x2) k0_pay14 :=
  (wholePiece VS0_2 off2 _ _ _).trans ((pay2_eq _).trans (cong20 (cong20 (cong20 (cong20 (View.readCov_cons_toLoadRect _ _ _ _) (readX harg1 x0 0 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))) (readX harg1 x0 1 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))) (readX harg1 x0 2 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))) (readX harg1 x0 3 rfl _) ((View.readCov_cons_toLoadRect _ _ _ _).trans (cong12 (cong11 (readW harg4 x3 off2 _)) (readW harg2 x1 off2 _))) ((View.readCov_cons_toLoadRect _ _ _ _).trans (cong13 (cong11 (readW harg4 x3 off2 _)) (readW harg3 x2 off2 _)))))

theorem soutA0 : sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = (k0_pay12 (inv0 x3) x1) :=
  (wholePiece VS0_0 off2 _ _ _).trans (cong12 (cong11 (readW harg4 x3 off2 _)) (readW harg2 x1 off2 _))

theorem soutA1 : sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = (k0_pay13 (inv0 x3) x2) :=
  (wholePiece VS0_1 off2 _ _ _).trans (cong13 (cong11 (readW harg4 x3 off2 _)) (readW harg3 x2 off2 _))

theorem outA6 : out0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = scale0 x3 :=
  (wholePiece VO0_6 off2 _ _ _).trans (cong10 (readW harg4 x3 off2 _))

end CaseA

section CaseB

/-! ## The points of case B -/

variable (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : ¬cond0_1 i) (x0 : Vec F S512x2560 .bf16) (x1 : Vec F S1x2560 .f32) (x2 : Vec F S1x2560 .f32) (x3 : Vec F S1x16 .f32) (xs0 : Vec F S1x2560 .f32) (xs1 : Vec F S1x2560 .f32) (xs2 : Vec F S8x2560 .f32)

theorem outB4 : out0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 = blk4 x0 xs0 xs1 :=
  pieces4 VO0_4 _ _ _ _
    (cong21 (readX harg1 x0 0 rfl _) (readW harg11 xs0 off2 _) (readW harg12 xs1 off2 _))
    (cong21 (readX harg1 x0 1 rfl _) (readW harg11 xs0 off2 _) (readW harg12 xs1 off2 _))
    (cong21 (readX harg1 x0 2 rfl _) (readW harg11 xs0 off2 _) (readW harg12 xs1 off2 _))
    (cong21 (readX harg1 x0 3 rfl _) (readW harg11 xs0 off2 _) (readW harg12 xs1 off2 _))
    (cover0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2)

theorem outB5 : out0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 = blk5 x0 xs0 xs1 :=
  pieces5 VO0_5 _ _ _ _
    (cong22 (cong21 (readX harg1 x0 0 rfl _) (readW harg11 xs0 off2 _) (readW harg12 xs1 off2 _)))
    (cong22 (cong21 (readX harg1 x0 1 rfl _) (readW harg11 xs0 off2 _) (readW harg12 xs1 off2 _)))
    (cong22 (cong21 (readX harg1 x0 2 rfl _) (readW harg11 xs0 off2 _) (readW harg12 xs1 off2 _)))
    (cong22 (cong21 (readX harg1 x0 3 rfl _) (readW harg11 xs0 off2 _) (readW harg12 xs1 off2 _)))
    (cover0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2)

theorem outB8 : out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 = blk8 x0 :=
  pieces8 VO0_8 _ _ _ _
    (cong23 (readX harg1 x0 0 rfl _))
    (cong23 (readX harg1 x0 1 rfl _))
    (cong23 (readX harg1 x0 2 rfl _))
    (cong23 (readX harg1 x0 3 rfl _))
    (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2)

theorem outB9 : out0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 = blk9 x0 :=
  pieces9 VO0_9 _ _ _ _
    (cong24 (readX harg1 x0 0 rfl _))
    (cong24 (readX harg1 x0 1 rfl _))
    (cong24 (readX harg1 x0 2 rfl _))
    (cong24 (readX harg1 x0 3 rfl _))
    (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2)

theorem soutB2 : sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 = accStep x0 xs0 xs1 xs2 :=
  (wholePiece VS0_2 off2 _ _ _).trans ((pay2_eq _).trans (cong20 (cong20 (cong20 (cong20 (readW harg13 xs2 off2 _) (readX harg1 x0 0 rfl _) (readW harg11 xs0 off2 _) (readW harg12 xs1 off2 _)) (readX harg1 x0 1 rfl _) (readW harg11 xs0 off2 _) (readW harg12 xs1 off2 _)) (readX harg1 x0 2 rfl _) (readW harg11 xs0 off2 _) (readW harg12 xs1 off2 _)) (readX harg1 x0 3 rfl _) (readW harg11 xs0 off2 _) (readW harg12 xs1 off2 _)))

end CaseB

section CaseC

/-! ## The points of case C -/

variable (c : Dev nD) (i : grid0.Coords) (arg1 : Memref sig .tc .vmem S512x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S1x16 .f32) (harg4 : arg4.IsWhole) (arg5 : Memref sig .tc .vmem S512x2560 .fp8e4m3) (harg5 : arg5.IsWhole) (arg6 : Memref sig .tc .vmem S2560x512 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4x128 .f32) (harg9 : arg9.IsWhole) (arg10 : Memref sig .tc .vmem S1x4x128 .f32) (harg10 : arg10.IsWhole) (arg11 : Memref sig .tc .vmem S1x2560 .f32) (harg11 : arg11.IsWhole) (arg12 : Memref sig .tc .vmem S1x2560 .f32) (harg12 : arg12.IsWhole) (arg13 : Memref sig .tc .vmem S8x2560 .f32) (harg13 : arg13.IsWhole) (hc0 : ¬cond0_0 i) (hc1 : cond0_1 i) (x0 : Vec F S512x2560 .bf16) (x1 : Vec F S1x2560 .f32) (x2 : Vec F S1x2560 .f32) (x3 : Vec F S1x16 .f32) (xo6 : Vec F S1x1 .f32) (xs0 : Vec F S1x2560 .f32) (xs1 : Vec F S1x2560 .f32) (xs2 : Vec F S8x2560 .f32)

theorem outC4 : out0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = blk4 x0 xs0 xs1 :=
  pieces4 VO0_4 _ _ _ _
    (cong21 (readX harg1 x0 0 rfl _) (readW harg11 xs0 off2 _) (readW harg12 xs1 off2 _))
    (cong21 (readX harg1 x0 1 rfl _) (readW harg11 xs0 off2 _) (readW harg12 xs1 off2 _))
    (cong21 (readX harg1 x0 2 rfl _) (readW harg11 xs0 off2 _) (readW harg12 xs1 off2 _))
    (cong21 (readX harg1 x0 3 rfl _) (readW harg11 xs0 off2 _) (readW harg12 xs1 off2 _))
    (cover0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2)

theorem outC5 : out0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = blk5 x0 xs0 xs1 :=
  pieces5 VO0_5 _ _ _ _
    (cong22 (cong21 (readX harg1 x0 0 rfl _) (readW harg11 xs0 off2 _) (readW harg12 xs1 off2 _)))
    (cong22 (cong21 (readX harg1 x0 1 rfl _) (readW harg11 xs0 off2 _) (readW harg12 xs1 off2 _)))
    (cong22 (cong21 (readX harg1 x0 2 rfl _) (readW harg11 xs0 off2 _) (readW harg12 xs1 off2 _)))
    (cong22 (cong21 (readX harg1 x0 3 rfl _) (readW harg11 xs0 off2 _) (readW harg12 xs1 off2 _)))
    (cover0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2)

theorem outC8 : out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = blk8 x0 :=
  pieces8 VO0_8 _ _ _ _
    (cong23 (readX harg1 x0 0 rfl _))
    (cong23 (readX harg1 x0 1 rfl _))
    (cong23 (readX harg1 x0 2 rfl _))
    (cong23 (readX harg1 x0 3 rfl _))
    (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2)

theorem outC9 : out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = blk9 x0 :=
  pieces9 VO0_9 _ _ _ _
    (cong24 (readX harg1 x0 0 rfl _))
    (cong24 (readX harg1 x0 1 rfl _))
    (cong24 (readX harg1 x0 2 rfl _))
    (cong24 (readX harg1 x0 3 rfl _))
    (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2)

theorem soutC2 : sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = accStep x0 xs0 xs1 xs2 :=
  (wholePiece VS0_2 off2 _ _ _).trans ((pay2_eq _).trans (cong20 (cong20 (cong20 (cong20 (readW harg13 xs2 off2 _) (readX harg1 x0 0 rfl _) (readW harg11 xs0 off2 _) (readW harg12 xs1 off2 _)) (readX harg1 x0 1 rfl _) (readW harg11 xs0 off2 _) (readW harg12 xs1 off2 _)) (readX harg1 x0 2 rfl _) (readW harg11 xs0 off2 _) (readW harg12 xs1 off2 _)) (readX harg1 x0 3 rfl _) (readW harg11 xs0 off2 _) (readW harg12 xs1 off2 _)))

theorem outC7 : out0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2 = k0_pay3 (accStep x0 xs0 xs1 xs2) xo6 :=
  (wholePiece VO0_7 off2 _ _ _).trans (cong3 ((View.readCov_cons_toLoadRect _ _ _ _).trans ((wholePiece VS0_2 off2 _ _ _).symm.trans (soutC2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1 xs2))) (readW harg7 xo6 off2 _))

end CaseC

end Cert.KernelIdeal.Steps

end
-- ==== Proof.Value.Reads.lean ====
/- The kernel's payloads read at an index, as extended reals. -/
module

public import proofs.«01_k».proof.Proof.Value.Spec
public import proofs.«01_k».proof.Proof.Value.Steps
public import Idealize.ShloMosaic.Lib.Pointwise

@[expose] public section

noncomputable section

namespace Cert.KernelIdeal.Reads

open Cert.KernelIdeal Cert.KernelIdeal.Gen Cert.KernelIdeal.Steps Cert.Spec
open Idealize.ShloMosaic

/-- A row of 128 rows. -/
def line (v : Vec Ideal S128x2560 .bf16) (r : Fin 128) (j : Fin 2560) : EReal := v (ix2 r j)

variable (v : Vec Ideal S128x2560 .bf16) (g b : Vec Ideal S1x2560 .f32)

theorem pay16 (r : Fin 128) : k0_pay16 v (ix2 r 0) = mean (line v r) := by
  pointwise [k0_pay16, k0_pay15]
  rw [Consts.inv_d]
  rfl

theorem pay17 (r : Fin 128) (j : Fin 2560) : k0_pay17 v (ix2 r j) = cen (line v r) j := by
  pointwise [k0_pay17, k0_pay15]
  rw [pay16]
  rfl

theorem pay18 (r : Fin 128) : k0_pay18 v (ix2 r 0) = rdev (line v r) := by
  pointwise [k0_pay18]
  simp only [pay17]
  rw [Consts.inv_d]
  rfl

theorem pay19 (r : Fin 128) (j : Fin 2560) :
    k0_pay19 v g b (ix2 r j) = nrm (line v r) (g (ix2 0 j)) (b (ix2 0 j)) j := by
  pointwise [k0_pay19]
  simp only [pay17, pay18]
  rfl

theorem pay21 (r : Fin 128) (j : Fin 2560) :
    k0_pay21 v g b (ix2 r j) = clip (nrm (line v r) (g (ix2 0 j)) (b (ix2 0 j)) j) := by
  pointwise [k0_pay21]
  rw [pay19]
  rfl

theorem pay22 (w : FVec Ideal S128x2560 .fp8e4m3) (j : Fin 2560) (r : Fin 128) : k0_pay22 w (ix2 j r) = w (ix2 r j) := by
  pointwise [k0_pay22]

theorem pay23 (w : FVec Ideal S128x1 .f32) (r : Fin 128) : k0_pay23 w (ix3 0 0 r) = w (ix2 r 0) := by
  pointwise [k0_pay23]

theorem pay24 (w : FVec Ideal S128x1 .f32) (r : Fin 128) : k0_pay24 w (ix3 0 0 r) = w (ix2 r 0) := by
  pointwise [k0_pay24]

theorem pay12 (i : Vec Ideal S1x1 .f32) (s : Vec Ideal S1x2560 .f32) (j : Fin 2560) :
    k0_pay12 i s (ix2 0 j) = s (ix2 0 j) * i (ix2 0 0) := by
  pointwise [k0_pay12]

theorem pay13 (i : Vec Ideal S1x1 .f32) (s : Vec Ideal S1x2560 .f32) (j : Fin 2560) :
    k0_pay13 i s (ix2 0 j) = s (ix2 0 j) * i (ix2 0 0) := by
  pointwise [k0_pay13]

theorem pay14 (x : S8x2560.Idx) : (k0_pay14 : FVec Ideal S8x2560 .f32) x = 0 := by
  pointwise [k0_pay14]

/-- Sixteen rows' entries of a column, eight apart, taken into the accumulator. -/
theorem pay20 (a : Vec Ideal S8x2560 .f32) (s : Fin 8) (j : Fin 2560) :
    k0_pay20 a v g b (ix2 s j) = max (a (ix2 s j)) (Finset.fold max ⊥ (fun q : Fin 16 =>
      mag (nrm (line v ⟨q.val * 8 + s.val, by omega⟩) (g (ix2 0 j)) (b (ix2 0 j)) j)) Finset.univ) := by
  pointwise [k0_pay20]
  simp only [pay19]
  rw [Consts.bot]
  rfl

theorem pay3 (a : Vec Ideal S8x2560 .f32) (s : Vec Ideal S1x1 .f32) :
    k0_pay3 a s (ix2 0 0) = Finset.fold max ⊥ (fun p : Fin 8 × Fin 2560 => a (ix2 p.1 p.2)) Finset.univ * s (ix2 0 0) := by
  pointwise [k0_pay3]
  rw [Consts.bot]

theorem pay4 (h : Vec Ideal S1x16 .f32) :
    k0_pay4 h (ix2 0 0) = Finset.fold max ⊥ (fun p : Fin 16 => h (ix2 0 p)) Finset.univ := by
  pointwise [k0_pay4]
  rw [Consts.bot]
  refine eq_of_forall_ge_iff fun c => ?_
  simp only [Finset.fold_max_le, Finset.mem_univ, true_implies]
  exact and_congr_right fun _ => ⟨fun H p => H ⟨0, p⟩, fun H p => H p.2⟩

theorem pay5 (h : Vec Ideal S1x16 .f32) (x : S1x1.Idx) :
    k0_pay5 h x = k0_pay4 h x * Ideal.ofBits .f32 0x3B124925#32 := rfl

end Cert.KernelIdeal.Reads

end
-- ==== Proof.Value.State.lean ====
/- What the idealized kernel's buffers hold after each grid point, in closed form: the scale, the scaled gain and shift,
   the accumulator as a fold over the blocks so far, and the point's four output blocks. -/
module

public import proofs.«01_k».proof.Proof.Value.Steps

@[expose] public section

set_option maxRecDepth 16384

noncomputable section

namespace Cert.KernelIdeal.State

open Cert.KernelIdeal Cert.KernelIdeal.Gen Cert.KernelIdeal.Run Cert.KernelIdeal.Steps
open Idealize.ShloMosaic Idealize.ShloMosaic.TcCoe

variable {F : FTy → Type} [FloatOps F] [Named F]
variable (m : (ℓ : Loc nD τ sig) → Buf (Elt F) ℓ) (c : Dev nD)

/-! ## The input blocks -/

/-- Row `r` of block `n`, as a row of the array. -/
def row (n : Fin 96) (r : Fin 512) : Fin 49152 := ⟨512 * n.val + r.val, by omega⟩

/-- A grid point, as a block number. -/
def num (t : Fin cfg0.N) : Fin 96 := ⟨t.val, lt_of_lt_of_eq t.isLt N_0⟩

/-- The four arrays the kernel is launched on. -/
def xs : Vec F S49152x2560 .bf16 := V m c main_v0
def gain : Vec F S1x2560 .f32 := V m c main_v1
def shift : Vec F S1x2560 .f32 := V m c main_v2
def hist : Vec F S1x16 .f32 := V m c main_v3

/-- Block `n` of the input: 512 rows. -/
def rows (n : Fin 96) : Vec F S512x2560 .bf16 := fun y =>
  xs m c (ix2 (n0 := 49152) (n1 := 2560) (row n (y 0)) (y 1))

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

theorem iblk0 (t : Fin cfg0.N) : iblk m c 0 t = rows m c (num t) := by
  funext y
  have e0 : (((cfg0.win 0).blk t).view.emb y 0).val = win0_0.index t (0 : Fin 2) * 512 + 1 * (y 0).val := rfl
  have e1 : (((cfg0.win 0).blk t).view.emb y 1).val = win0_0.index t (1 : Fin 2) * 2560 + 1 * (y 1).val := rfl
  rw [(idx0 t).1] at e0
  rw [(idx0 t).2] at e1
  refine congrArg (xs m c) (?_ : ((cfg0.win 0).blk t).view.emb y = _)
  funext a
  match a with
  | ⟨0, _⟩ => exact Fin.ext (e0.trans (by show t.val * 512 + 1 * (y 0).val = 512 * t.val + (y 0).val; omega))
  | ⟨1, _⟩ => exact Fin.ext (e1.trans (by show 0 * 2560 + 1 * (y 1).val = (y 1).val; omega))

theorem iblk1 (t : Fin cfg0.N) : iblk m c 1 t = gain m c := by
  funext y
  have e0 : (((cfg0.win 1).blk t).view.emb y 0).val = win0_1.index t (0 : Fin 2) * 1 + 1 * (y 0).val := rfl
  have e1 : (((cfg0.win 1).blk t).view.emb y 1).val = win0_1.index t (1 : Fin 2) * 2560 + 1 * (y 1).val := rfl
  rw [(idx1 t).1] at e0
  rw [(idx1 t).2] at e1
  refine congrArg (gain m c) (?_ : ((cfg0.win 1).blk t).view.emb y = y)
  funext a
  match a with
  | ⟨0, _⟩ => exact Fin.ext (e0.trans (by show 0 * 1 + 1 * (y 0).val = (y 0).val; omega))
  | ⟨1, _⟩ => exact Fin.ext (e1.trans (by show 0 * 2560 + 1 * (y 1).val = (y 1).val; omega))

theorem iblk2 (t : Fin cfg0.N) : iblk m c 2 t = shift m c := by
  funext y
  have e0 : (((cfg0.win 2).blk t).view.emb y 0).val = win0_2.index t (0 : Fin 2) * 1 + 1 * (y 0).val := rfl
  have e1 : (((cfg0.win 2).blk t).view.emb y 1).val = win0_2.index t (1 : Fin 2) * 2560 + 1 * (y 1).val := rfl
  rw [(idx2 t).1] at e0
  rw [(idx2 t).2] at e1
  refine congrArg (shift m c) (?_ : ((cfg0.win 2).blk t).view.emb y = y)
  funext a
  match a with
  | ⟨0, _⟩ => exact Fin.ext (e0.trans (by show 0 * 1 + 1 * (y 0).val = (y 0).val; omega))
  | ⟨1, _⟩ => exact Fin.ext (e1.trans (by show 0 * 2560 + 1 * (y 1).val = (y 1).val; omega))

theorem iblk3 (t : Fin cfg0.N) : iblk m c 3 t = hist m c := by
  funext y
  have e0 : (((cfg0.win 3).blk t).view.emb y 0).val = win0_3.index t (0 : Fin 2) * 1 + 1 * (y 0).val := rfl
  have e1 : (((cfg0.win 3).blk t).view.emb y 1).val = win0_3.index t (1 : Fin 2) * 16 + 1 * (y 1).val := rfl
  rw [(idx3 t).1] at e0
  rw [(idx3 t).2] at e1
  refine congrArg (hist m c) (?_ : ((cfg0.win 3).blk t).view.emb y = y)
  funext a
  match a with
  | ⟨0, _⟩ => exact Fin.ext (e0.trans (by show 0 * 1 + 1 * (y 0).val = (y 0).val; omega))
  | ⟨1, _⟩ => exact Fin.ext (e1.trans (by show 0 * 16 + 1 * (y 1).val = (y 1).val; omega))

/-! ## The state after a point -/

/-- The scale, and the gain and shift scaled down by it. -/
def sc : Vec F S1x1 .f32 := scale0 (hist m c)
def gs : Vec F S1x2560 .f32 := k0_pay12 (inv0 (hist m c)) (gain m c)
def bs : Vec F S1x2560 .f32 := k0_pay13 (inv0 (hist m c)) (shift m c)

/-- The accumulator after block `n`. -/
def acc : (n : ℕ) → n < 96 → Vec F S8x2560 .f32
  | 0, h => accStep (rows m c ⟨0, h⟩) (gs m c) (bs m c) k0_pay14
  | n + 1, h => accStep (rows m c ⟨n + 1, h⟩) (gs m c) (bs m c) (acc n (by omega))

/-- What is claimed of the buffers after a point. -/
structure Good (n : ℕ) (hn : n < 96)
    (o : Vec F S512x2560 .fp8e4m3 × Vec F S2560x512 .fp8e4m3 × Vec F S1x1 .f32 × Vec F S1x1 .f32 × Vec F S1x4x128 .f32 × Vec F S1x4x128 .f32 × Vec F S1x2560 .f32 × Vec F S1x2560 .f32 × Vec F S8x2560 .f32) : Prop where
  o4 : o.1 = blk4 (rows m c ⟨n, hn⟩) (gs m c) (bs m c)
  o5 : o.2.1 = blk5 (rows m c ⟨n, hn⟩) (gs m c) (bs m c)
  o6 : o.2.2.1 = sc m c
  o8 : o.2.2.2.2.1 = blk8 (rows m c ⟨n, hn⟩)
  o9 : o.2.2.2.2.2.1 = blk9 (rows m c ⟨n, hn⟩)
  s0 : o.2.2.2.2.2.2.1 = gs m c
  s1 : o.2.2.2.2.2.2.2.1 = bs m c
  s2 : o.2.2.2.2.2.2.2.2 = acc m c n hn

theorem good : ∀ (n : ℕ) (hn : n < cfg0.N), Good m c n (lt_of_lt_of_eq hn N_0) (outsAt0 m c n hn)
  | 0, hn => by
    have e := outsAt0_A m c ⟨0, hn⟩ (Nat.zero_mod _) (by decide : ¬(0 % 96 = 95))
    rw [iblk0, iblk1, iblk2, iblk3] at e
    rw [show outsAt0 m c 0 hn = _ from e]
    constructor
    · dsimp only; rw [outA4]; rfl
    · dsimp only; rw [outA5]; rfl
    · dsimp only; rw [outA6]; rfl
    · dsimp only; rw [outA8]; rfl
    · dsimp only; rw [outA9]; rfl
    · dsimp only; rw [soutA0]; rfl
    · dsimp only; rw [soutA1]; rfl
    · dsimp only; rw [soutA2]; rfl
  | n + 1, hn => by
    have hN : n + 1 < 96 := lt_of_lt_of_eq hn N_0
    have ih := good n (by omega)
    by_cases h1 : (n + 1) % 96 = 95
    · have e := outsAt0_C m c ⟨n + 1, hn⟩ (by show ¬((n + 1) % 96 = 0); omega) h1
      rw [iblk0, iblk1, iblk2, iblk3] at e
      rw [show outsAt0 m c (n + 1) hn = _ from e]
      constructor
      · dsimp only; rw [outC4]; exact congr (congrArg (blk4 _) ih.s0) ih.s1
      · dsimp only; rw [outC5]; exact congr (congrArg (blk5 _) ih.s0) ih.s1
      · exact ih.o6
      · dsimp only; rw [outC8]; rfl
      · dsimp only; rw [outC9]; rfl
      · exact ih.s0
      · exact ih.s1
      · dsimp only; rw [soutC2]; exact congr (congr (congrArg (accStep _) ih.s0) ih.s1) ih.s2
    · have e := outsAt0_B m c ⟨n + 1, hn⟩ (by show ¬((n + 1) % 96 = 0); omega) h1
      rw [iblk0, iblk1, iblk2, iblk3] at e
      rw [show outsAt0 m c (n + 1) hn = _ from e]
      constructor
      · dsimp only; rw [outB4]; exact congr (congrArg (blk4 _) ih.s0) ih.s1
      · dsimp only; rw [outB5]; exact congr (congrArg (blk5 _) ih.s0) ih.s1
      · exact ih.o6
      · dsimp only; rw [outB8]; rfl
      · dsimp only; rw [outB9]; rfl
      · exact ih.s0
      · exact ih.s1
      · dsimp only; rw [soutB2]; exact congr (congr (congrArg (accStep _) ih.s0) ih.s1) ih.s2

/-- The last point also writes the maximum: the accumulator's, scaled back. -/
theorem last7 (n : ℕ) (hn : n + 1 < cfg0.N) (h1 : (n + 1) % 96 = 95) :
    (outsAt0 m c (n + 1) hn).2.2.2.1 = k0_pay3 (acc m c (n + 1) (lt_of_lt_of_eq hn N_0)) (sc m c) := by
  have hN : n + 1 < 96 := lt_of_lt_of_eq hn N_0
  have e := outsAt0_C m c ⟨n + 1, hn⟩ (by show ¬((n + 1) % 96 = 0); omega) h1
  rw [iblk0, iblk1, iblk2, iblk3] at e
  rw [show outsAt0 m c (n + 1) hn = _ from e]
  have ih := good m c n (by omega)
  dsimp only
  rw [outC7]
  exact congr (congrArg k0_pay3 (congr (congr (congrArg (accStep _) ih.s0) ih.s1) ih.s2)) ih.o6

end Cert.KernelIdeal.State

end
-- ==== Proof.Value.Amax.lean ====
/- The accumulator's maximum over all blocks is the maximum over all rows. -/
module

public import proofs.«01_k».proof.Proof.Value.Reads
public import proofs.«01_k».proof.Proof.Value.State

@[expose] public section

noncomputable section

namespace Cert.KernelIdeal.Amax

open Cert.KernelIdeal Cert.KernelIdeal.Gen Cert.KernelIdeal.Steps Cert.KernelIdeal.State Cert.KernelIdeal.Reads Cert.Spec
open Idealize.ShloMosaic Idealize.ShloMosaic.TcCoe

variable (m : (ℓ : Loc nD τ sig) → Buf (Elt Ideal) ℓ) (c : Dev nD)

/-- A row of the whole array. -/
def krow (r : Fin 49152) (j : Fin 2560) : EReal := xs m c (ix2 (n0 := 49152) (n1 := 2560) r j)

/-- The absolute value of row `r`'s entry `j`, scaled as the kernel scales it. -/
def val (r : Fin 49152) (j : Fin 2560) : EReal :=
  mag (nrm (krow m c r) (gs m c (ix2 (n0 := 1) (n1 := 2560) 0 j)) (bs m c (ix2 (n0 := 1) (n1 := 2560) 0 j)) j)

theorem mag_nonneg (x : EReal) : 0 ≤ mag x := by
  rw [mag_eq]
  rcases le_total 0 x with h | h
  · exact le_max_of_le_left h
  · exact le_max_of_le_right (EReal.neg_nonneg.mpr h)

/-- Row `8 q + s` of group `k`. -/
def eighth (k : Fin 4) (q : Fin 16) (s : Fin 8) : Fin 512 := lift k ⟨q.val * 8 + s.val, by omega⟩

/-- The accumulator's entry. -/
def accE (n : ℕ) (hn : n < 96) (s : Fin 8) (j : Fin 2560) : EReal := acc m c n hn (ix2 s j)

theorem step_le (n : Fin 96) (a : Vec Ideal S8x2560 .f32) (s : Fin 8) (j : Fin 2560) (C : EReal) :
    (accStep (rows m c n) (gs m c) (bs m c) a (ix2 s j) : EReal) ≤ C ↔
      (a (ix2 s j) : EReal) ≤ C ∧ ∀ (k : Fin 4) (q : Fin 16), val m c (row n (eighth k q s)) j ≤ C := by
  unfold accStep
  simp only [pay20, max_le_iff, Finset.fold_max_le, Finset.mem_univ, true_implies, bot_le, true_and]
  constructor
  · rintro ⟨⟨⟨⟨h, h0⟩, h1⟩, h2⟩, h3⟩
    exact ⟨h, fun k q => match k with
      | 0 => h0 q
      | 1 => h1 q
      | 2 => h2 q
      | 3 => h3 q⟩
  · rintro ⟨h, hk⟩
    exact ⟨⟨⟨⟨h, fun q => hk 0 q⟩, fun q => hk 1 q⟩, fun q => hk 2 q⟩, fun q => hk 3 q⟩

theorem acc_zero (hn : 0 < 96) : acc m c 0 hn = accStep (rows m c ⟨0, hn⟩) (gs m c) (bs m c) (k0_pay14 : FVec Ideal S8x2560 .f32) := by
  rw [acc]
theorem acc_succ (n : ℕ) (hn : n + 1 < 96) :
    acc m c (n + 1) hn = accStep (rows m c ⟨n + 1, hn⟩) (gs m c) (bs m c) (acc m c n (by omega)) := by
  rw [acc]

theorem acc_le (s : Fin 8) (j : Fin 2560) (C : EReal) : ∀ (n : ℕ) (hn : n < 96),
    accE m c n hn s j ≤ C ↔
      0 ≤ C ∧ ∀ n' : Fin 96, n'.val ≤ n → ∀ (k : Fin 4) (q : Fin 16), val m c (row n' (eighth k q s)) j ≤ C
  | 0, hn => by
    unfold accE
    rw [acc_zero, step_le, pay14]
    refine and_congr_right fun _ => ⟨fun H n' h => ?_, fun H => H ⟨0, hn⟩ (Nat.le_refl 0)⟩
    rw [show n' = ⟨0, hn⟩ from Fin.ext (Nat.le_zero.mp h)]
    exact H
  | n + 1, hn => by
    have ih := acc_le s j C n (by omega)
    unfold accE at ih ⊢
    rw [acc_succ, step_le, ih]
    constructor
    · rintro ⟨⟨h0, h⟩, hl⟩
      refine ⟨h0, fun n' hn' => ?_⟩
      by_cases e : n'.val ≤ n
      · exact h n' e
      · rw [show n' = ⟨n + 1, hn⟩ from Fin.ext (by show n'.val = n + 1; omega)]
        exact hl
    · rintro ⟨h0, h⟩
      exact ⟨⟨h0, fun n' hn' => h n' (by omega)⟩, h ⟨n + 1, hn⟩ (Nat.le_refl _)⟩

theorem row_surj (r : Fin 49152) : ∃ (n : Fin 96) (k : Fin 4) (q : Fin 16) (s : Fin 8), r = row n (eighth k q s) := by
  have := r.isLt
  refine ⟨⟨r.val / 512, by omega⟩, ⟨r.val % 512 / 128, by omega⟩, ⟨r.val % 128 / 8, by omega⟩, ⟨r.val % 8, by omega⟩, ?_⟩
  apply Fin.ext
  show r.val = 512 * (r.val / 512) + (128 * (r.val % 512 / 128) + (r.val % 128 / 8 * 8 + r.val % 8))
  omega

theorem acc_max (hn : 95 < 96) :
    Finset.fold max ⊥ (fun p : Fin 8 × Fin 2560 => accE m c 95 hn p.1 p.2) Finset.univ
      = Finset.fold max ⊥ (fun p : Fin 49152 × Fin 2560 => val m c p.1 p.2) Finset.univ := by
  refine eq_of_forall_ge_iff fun C => ?_
  simp only [Finset.fold_max_le, Finset.mem_univ, true_implies, bot_le, true_and, acc_le]
  constructor
  · intro H p
    obtain ⟨n, k, q, s, e⟩ := row_surj p.1
    rw [e]
    exact (H (s, p.2)).2 n (by omega) k q
  · intro H p
    exact ⟨le_trans (mag_nonneg _) (H (0, 0)), fun n _ k q => H (row n (eighth k q p.1), p.2)⟩

/-- A maximum scaled. -/
theorem fold_scaled {ι : Type} [Fintype ι] (f : ι → EReal) (r : ℝ) (hr : 0 < r) :
    Finset.fold max ⊥ (fun p => f p * (r : EReal)) Finset.univ = Finset.fold max ⊥ f Finset.univ * (r : EReal) := by
  have hm : Monotone fun z : EReal => z * (r : EReal) := fun a b h => mul_le_mul_of_nonneg_right h (by exact_mod_cast hr.le)
  have h := Finset.fold_hom (s := Finset.univ) (f := f) (b := (⊥ : EReal)) (op := max) (op' := max)
    (m := fun z : EReal => z * (r : EReal)) (fun a b => hm.map_max)
  rwa [EReal.bot_mul_coe_of_pos hr] at h

end Cert.KernelIdeal.Amax

end
-- ==== Proof.Value.Exponent.lean ====
/- The kernel's scale: its eight comparisons find the exponent field of the history's quotient, and the two words made of
   that exponent are the powers of two that the reference computes by a logarithm. -/
module

public import proofs.«01_k».proof.Proof.Value.Consts
public import proofs.«01_k».proof.Proof.Value.Steps

@[expose] public section

noncomputable section

namespace Cert.KernelIdeal.Exponent

open Cert.KernelIdeal Cert.KernelIdeal.Gen Cert.KernelIdeal.Steps
open Idealize.ShloMosaic

/-- One comparison of the search: `k` if `A` is below the power of two with exponent field `k + b`, else `k + b`. -/
def stp (A : EReal) (k b : BitVec 32) : BitVec 32 :=
  if Ideal.cmp .olt A (Ideal.ofBits .f32 (IntOp.shli .vector (IntOp.addi k b) 23#32)) = 1 then k else IntOp.addi k b

/-- The search. -/
def search (A : EReal) : BitVec 32 :=
  stp A (stp A (stp A (stp A (stp A (stp A (stp A (stp A 0#32 128#32) 64#32) 32#32) 16#32) 8#32) 4#32) 2#32) 1#32

/-- The exponent, as a word. -/
def eWord (a t : EReal) : BitVec 32 :=
  if Ideal.cmp .oeq a (Ideal.ofBits .f32 0x00000000#32) = 1 then 0#32
  else IntOp.subi (search (FloatOps.absf (F := Ideal) (φ := .f32) t)) 126#32

/-- The same comparison on arrays. -/
def vstp {F : FTy → Type} [FloatOps F] (T : FVec F S1x1 .f32) (k w : IVec S1x1 32) : IVec S1x1 32 :=
  select (cmpf .olt (absf T) (bitcastToFloat .f32 (shli (addi k w) (broadcast S1x1 23#32)))) k (addi k w)

theorem vstp_at (T : FVec Ideal S1x1 .f32) (k w : IVec S1x1 32) (x : S1x1.Idx) :
    vstp T k w x = stp (FloatOps.absf (F := Ideal) (φ := .f32) (T x)) (k x) (w x) := rfl

theorem pay7_eq {F : FTy → Type} [FloatOps F] (h : Vec F S1x16 .f32) :
    k0_pay7 h = vstp (k0_pay5 h) (vstp (k0_pay5 h) (vstp (k0_pay5 h) (vstp (k0_pay5 h) (broadcast S1x1 0#32)
      (broadcast S1x1 128#32)) (broadcast S1x1 64#32)) (broadcast S1x1 32#32)) (broadcast S1x1 16#32) := by
  dsimp only [k0_pay7, vstp]

theorem pay9_eq {F : FTy → Type} [FloatOps F] (T : FVec F S1x1 .f32) (z : IVec S1x1 1) (k w : IVec S1x1 32) :
    k0_pay9 T z k w = select z (broadcast S1x1 0#32) (subi (vstp T (vstp T (vstp T (vstp T k w) (broadcast S1x1 4#32))
      (broadcast S1x1 2#32)) (broadcast S1x1 1#32)) (broadcast S1x1 126#32)) := by
  dsimp only [k0_pay9, vstp]

theorem pay9_read (h : Vec Ideal S1x16 .f32) (x : S1x1.Idx) :
    k0_pay9 (k0_pay5 h) (k0_pay6 h) (k0_pay7 h) k0_pay8 x = eWord (k0_pay4 h x) (k0_pay5 h x) := by
  have e : k0_pay9 (k0_pay5 h) (k0_pay6 h) (k0_pay7 h) k0_pay8 x
      = if k0_pay6 h x = 1 then 0#32 else IntOp.subi (vstp (k0_pay5 h) (vstp (k0_pay5 h) (vstp (k0_pay5 h)
        (vstp (k0_pay5 h) (k0_pay7 h) k0_pay8) (broadcast S1x1 4#32)) (broadcast S1x1 2#32)) (broadcast S1x1 1#32) x) 126#32 := by
    rw [pay9_eq]; rfl
  rw [e, pay7_eq]
  simp only [vstp_at]
  rfl

theorem scale0_read (h : Vec Ideal S1x16 .f32) (x : S1x1.Idx) :
    scale0 h x = Ideal.ofBits .f32 (IntOp.shli .vector (IntOp.addi (eWord (k0_pay4 h x) (k0_pay5 h x)) 127#32) 23#32) := by
  rw [← pay9_read]; rfl

theorem inv0_read (h : Vec Ideal S1x16 .f32) (x : S1x1.Idx) :
    inv0 h x = Ideal.ofBits .f32 (IntOp.shli .vector (IntOp.subi 127#32 (eWord (k0_pay4 h x) (k0_pay5 h x))) 23#32) := by
  rw [← pay9_read]; rfl

theorem shl_word (k : ℕ) : IntOp.shli .vector (BitVec.ofNat 32 k) 23#32 = Consts.word k := by
  unfold IntOp.shli
  rw [if_pos (by decide)]
  rfl

theorem add_nat (k b : ℕ) : IntOp.addi (BitVec.ofNat 32 k) (BitVec.ofNat 32 b) = BitVec.ofNat 32 (k + b) :=
  (BitVec.ofNat_add k b).symm

/-- Below: `A` lies between the powers of two with exponent fields `K` and `K + 1`. -/
theorem stp_nat (A : ℝ) (K : ℕ) (h1 : (2 : ℝ) ^ ((K : ℤ) - 127) ≤ A) (h2 : A < (2 : ℝ) ^ ((K : ℤ) - 126))
    (k b : ℕ) (hb : 0 < b) (hk : k + b ≤ 255) :
    stp A (BitVec.ofNat 32 k) (BitVec.ofNat 32 b) = BitVec.ofNat 32 (if k + b ≤ K ∧ k + b < 255 then k + b else k) := by
  have hc : ¬ (Ideal.cmp .olt (A : EReal) (Ideal.ofBits .f32 (Consts.word (k + b))) = 1) ↔ (k + b ≤ K ∧ k + b < 255) := by
    have h0 : ¬ (Ideal.cmp .olt (A : EReal) (Ideal.ofBits .f32 (Consts.word (k + b))) = 1) ↔
        Ideal.ofBits .f32 (Consts.word (k + b)) ≤ (A : EReal) := by
      rw [← not_lt]
      by_cases h : (A : EReal) < Ideal.ofBits .f32 (Consts.word (k + b)) <;> simp [Ideal.cmp, h]
    rw [h0]
    by_cases h255 : k + b = 255
    · rw [h255, Consts.top]
      constructor
      · intro h; exact absurd h (not_le.mpr (EReal.coe_lt_top A))
      · intro h; omega
    · rw [Consts.power (k + b) (by omega) (by omega), EReal.coe_le_coe_iff]
      constructor
      · intro h
        refine ⟨?_, by omega⟩
        have := (zpow_lt_zpow_iff_right₀ (by norm_num : (1 : ℝ) < 2)).mp (lt_of_le_of_lt h h2)
        omega
      · intro h
        exact le_trans (zpow_le_zpow_right₀ (by norm_num) (by omega)) h1
  unfold stp
  rw [add_nat, shl_word]
  by_cases h : k + b ≤ K ∧ k + b < 255
  · rw [if_neg (hc.mpr h), if_pos h]
  · rw [if_pos (not_not.mp fun h' => h (hc.mp h')), if_neg h]

/-- The same search over numbers. -/
def natStp (K k b : ℕ) : ℕ := if k + b ≤ K ∧ k + b < 255 then k + b else k

theorem natSearch : ∀ K : Fin 255, natStp K (natStp K (natStp K (natStp K (natStp K (natStp K (natStp K (natStp K 0 128) 64) 32)
    16) 8) 4) 2) 1 = K := by decide +kernel

theorem natBound (K k b : ℕ) : natStp K k b ≤ k + b := by
  unfold natStp; split <;> omega

theorem search_eq (A : ℝ) (K : ℕ) (hK : K < 255) (h1 : (2 : ℝ) ^ ((K : ℤ) - 127) ≤ A) (h2 : A < (2 : ℝ) ^ ((K : ℤ) - 126)) :
    search A = BitVec.ofNat 32 K := by
  have s := fun k b hb hk => stp_nat A K h1 h2 k b hb hk
  have e1 := natBound K 0 128
  have e2 := natBound K (natStp K 0 128) 64
  have e3 := natBound K (natStp K (natStp K 0 128) 64) 32
  have e4 := natBound K (natStp K (natStp K (natStp K 0 128) 64) 32) 16
  have e5 := natBound K (natStp K (natStp K (natStp K (natStp K 0 128) 64) 32) 16) 8
  have e6 := natBound K (natStp K (natStp K (natStp K (natStp K (natStp K 0 128) 64) 32) 16) 8) 4
  have e7 := natBound K (natStp K (natStp K (natStp K (natStp K (natStp K (natStp K 0 128) 64) 32) 16) 8) 4) 2
  have st : ∀ k b : ℕ, 0 < b → k + b ≤ 255 → stp A (BitVec.ofNat 32 k) (BitVec.ofNat 32 b) = BitVec.ofNat 32 (natStp K k b) := s
  unfold search
  have t1 := st 0 128 (by omega) (by omega)
  have t2 := st _ 64 (by omega) (show natStp K 0 128 + 64 ≤ 255 by omega)
  have t3 := st _ 32 (by omega) (show natStp K (natStp K 0 128) 64 + 32 ≤ 255 by omega)
  have t4 := st _ 16 (by omega) (show natStp K (natStp K (natStp K 0 128) 64) 32 + 16 ≤ 255 by omega)
  have t5 := st _ 8 (by omega) (show natStp K (natStp K (natStp K (natStp K 0 128) 64) 32) 16 + 8 ≤ 255 by omega)
  have t6 := st _ 4 (by omega) (show natStp K (natStp K (natStp K (natStp K (natStp K 0 128) 64) 32) 16) 8 + 4 ≤ 255 by omega)
  have t7 := st _ 2 (by omega)
    (show natStp K (natStp K (natStp K (natStp K (natStp K (natStp K 0 128) 64) 32) 16) 8) 4 + 2 ≤ 255 by omega)
  have t8 := st _ 1 (by omega)
    (show natStp K (natStp K (natStp K (natStp K (natStp K (natStp K (natStp K 0 128) 64) 32) 16) 8) 4) 2 + 1 ≤ 255 by omega)
  rw [t1, t2, t3, t4, t5, t6, t7, t8]
  exact congrArg (BitVec.ofNat 32) (natSearch ⟨K, hK⟩)

/-- The exponent as the reference computes it. -/
def refE (a t : EReal) : EReal :=
  if a = 0 then 0
  else Ideal.liftRound Int.floor (Ideal.div (Ideal.log (FloatOps.absf (F := Ideal) (φ := .f32) t))
    (Ideal.log ((2 : ℝ) : EReal))) + ((1 : ℝ) : EReal)

/-- Where the claim holds: the history's maximum is zero, or its quotient's absolute value is at least `2 ^ -127`
    and below `2 ^ 126`. -/
def InRange (a t : EReal) : Prop :=
  a = 0 ∨ ((((2 : ℝ) ^ (-127 : ℤ) : ℝ) : EReal) ≤ FloatOps.absf (F := Ideal) (φ := .f32) t
    ∧ FloatOps.absf (F := Ideal) (φ := .f32) t < (((2 : ℝ) ^ (126 : ℤ) : ℝ) : EReal))

theorem eWord_zero {a t : EReal} (h : a = 0) : eWord a t = 0#32 := by
  unfold eWord
  rw [if_pos]
  rw [Consts.zero, h]
  simp [Ideal.cmp]

/-- The powers made of the word are those made of the reference's exponent. -/
theorem powers (a t : EReal) (h : InRange a t) : ∃ E : ℤ, refE a t = ((E : ℝ) : EReal)
    ∧ Ideal.ofBits .f32 (IntOp.shli .vector (IntOp.addi (eWord a t) 127#32) 23#32) = (((2 : ℝ) ^ E : ℝ) : EReal)
    ∧ Ideal.ofBits .f32 (IntOp.shli .vector (IntOp.subi 127#32 (eWord a t)) 23#32) = (((2 : ℝ) ^ (-E) : ℝ) : EReal) := by
  by_cases ha : a = 0
  · refine ⟨0, ?_, ?_, ?_⟩
    · unfold refE; rw [if_pos ha]; simp
    · rw [eWord_zero ha]; exact (congrArg (Ideal.ofBits .f32) (shl_word 127)).trans (Consts.power 127 (by omega) (by omega))
    · rw [eWord_zero ha]; exact (congrArg (Ideal.ofBits .f32) (shl_word 127)).trans (Consts.power 127 (by omega) (by omega))
  · obtain ⟨hl, hu⟩ := h.resolve_left ha
    unfold refE eWord
    rw [if_neg ha, if_neg (by rw [Consts.zero]; simp [Ideal.cmp, ha])]
    generalize FloatOps.absf (F := Ideal) (φ := .f32) t = A at hl hu ⊢
    have hnb : A ≠ ⊥ := fun e => by rw [e] at hl; exact absurd hl (not_le.mpr (EReal.bot_lt_coe _))
    have hnt : A ≠ ⊤ := fun e => by rw [e] at hu; exact absurd hu (not_lt.mpr le_top)
    lift A to ℝ using ⟨hnt, hnb⟩
    rw [EReal.coe_le_coe_iff] at hl
    rw [EReal.coe_lt_coe_iff] at hu
    have hA : 0 < A := lt_of_lt_of_le (by positivity) hl
    have h2 : 0 < Real.log 2 := Real.log_pos (by norm_num)
    have le_iff : ∀ n : ℤ, ((n : ℝ) ≤ Real.log A * (1 / Real.log 2)) ↔ (2 : ℝ) ^ n ≤ A := by
      intro n
      rw [mul_one_div, le_div_iff₀ h2, ← Real.log_zpow, Real.log_le_log_iff (by positivity) hA]
    obtain ⟨n, hn⟩ : ∃ n : ℤ, n = Int.floor (Real.log A * (1 / Real.log 2)) := ⟨_, rfl⟩
    have n1 : (2 : ℝ) ^ n ≤ A := (le_iff n).mp (hn ▸ Int.floor_le _)
    have n2 : A < (2 : ℝ) ^ (n + 1) := by
      rw [← not_le, ← le_iff (n + 1)]
      have := Int.lt_floor_add_one (Real.log A * (1 / Real.log 2))
      rw [← hn] at this
      push_cast
      exact not_le.mpr this
    have b1 : -127 ≤ n := by
      have := (zpow_lt_zpow_iff_right₀ (by norm_num : (1 : ℝ) < 2)).mp (lt_of_le_of_lt hl n2)
      omega
    have b2 : n < 126 := (zpow_lt_zpow_iff_right₀ (by norm_num : (1 : ℝ) < 2)).mp (lt_of_le_of_lt n1 hu)
    obtain ⟨K, hK⟩ : ∃ K : ℕ, (K : ℤ) = n + 127 := ⟨(n + 127).toNat, by omega⟩
    have hs : search A = BitVec.ofNat 32 K := search_eq A K (by omega)
      (by rw [hK]; simpa using n1) (by rw [hK, show n + 127 - 126 = n + 1 by ring]; exact n2)
    refine ⟨n + 1, ?_, ?_, ?_⟩
    · have l2 : Ideal.log ((2 : ℝ) : EReal) = ((Real.log 2 : ℝ) : EReal) := by
        show ((if (2 : ℝ) ≤ 0 then ⊥ else (Real.log 2 : EReal)) : EReal) = _
        rw [if_neg (by norm_num)]
      have lA : Ideal.log ((A : ℝ) : EReal) = ((Real.log A : ℝ) : EReal) := by
        show ((if A ≤ 0 then ⊥ else (Real.log A : EReal)) : EReal) = _
        rw [if_neg (not_le.mpr hA)]
      rw [l2, lA, Ideal.div_coe h2.ne', ← EReal.coe_mul, Ideal.liftRound_coe, ← hn, ← EReal.coe_add]
      push_cast
      rfl
    · rw [hs]
      have e : IntOp.addi (IntOp.subi (BitVec.ofNat 32 K) 126#32) 127#32 = BitVec.ofNat 32 (K + 1) := by
        show BitVec.ofNat 32 K - 126#32 + 127#32 = _
        apply BitVec.eq_of_toNat_eq
        simp only [BitVec.toNat_add, BitVec.toNat_sub, BitVec.toNat_ofNat]
        omega
      rw [e, shl_word, Consts.power (K + 1) (by omega) (by omega)]
      congr 2
      push_cast
      omega
    · rw [hs]
      have e : IntOp.subi 127#32 (IntOp.subi (BitVec.ofNat 32 K) 126#32) = BitVec.ofNat 32 (253 - K) := by
        show 127#32 - (BitVec.ofNat 32 K - 126#32) = _
        apply BitVec.eq_of_toNat_eq
        simp only [BitVec.toNat_sub, BitVec.toNat_ofNat]
        omega
      rw [e, shl_word, Consts.power (253 - K) (by omega) (by omega)]
      congr 2
      omega

end Cert.KernelIdeal.Exponent

end
-- ==== Proof.Value.Results.lean ====
/- The idealized kernel's six results, read at an index, as extended reals of the four arguments. -/
module

public import proofs.«01_k».proof.Proof.Value.Amax
public import proofs.«01_k».proof.Proof.Value.Exponent
public import proofs.«01_k».proof.Proof.Run.Arrays

@[expose] public section

set_option maxRecDepth 16384

noncomputable section

namespace Cert.KernelIdeal.Results

open Cert.KernelIdeal Cert.KernelIdeal.Gen Cert.KernelIdeal.Run Cert.KernelIdeal.Steps Cert.KernelIdeal.State
open Cert.KernelIdeal.Reads Cert.KernelIdeal.Amax Cert.KernelIdeal.Exponent Cert.Spec
open Idealize.ShloMosaic Idealize.ShloMosaic.TcCoe

variable (m : (ℓ : Loc nD τ sig) → Buf (Elt Ideal) ℓ) (c : Dev nD)

/-! ## The arguments -/

def k0 : FVec Ideal S24x2048x2560 .bf16 := m (c, main_arg0)
def k1 : FVec Ideal S2560 .f32 := m (c, main_arg1)
def k2 : FVec Ideal S2560 .f32 := m (c, main_arg2)
def k3 : FVec Ideal S16 .f32 := m (c, main_arg3)

theorem xs_eq : xs m c = shapeCast S49152x2560 (k0 m c) shapeCasts_S24x2048x2560_S49152x2560 := by
  unfold xs; entry_read; rfl
theorem gain_eq : gain m c = shapeCast S1x2560 (k1 m c) shapeCasts_S2560_S1x2560 := by
  unfold gain; entry_read; rfl
theorem shift_eq : shift m c = shapeCast S1x2560 (k2 m c) shapeCasts_S2560_S1x2560 := by
  unfold shift; entry_read; rfl
theorem hist_eq : hist m c = shapeCast S1x16 (k3 m c) shapeCasts_S16_S1x16 := by
  unfold hist; entry_read; rfl

theorem gain_at (j : Fin 2560) : gain m c (ix2 0 j) = k1 m c (ix1 j) := by
  rw [gain_eq]; pointwise []
theorem shift_at (j : Fin 2560) : shift m c (ix2 0 j) = k2 m c (ix1 j) := by
  rw [shift_eq]; pointwise []
theorem hist_at (j : Fin 16) : hist m c (ix2 0 j) = k3 m c (ix1 j) := by
  rw [hist_eq]; pointwise []

/-- The history's maximum, and its quotient. -/
def top : EReal := Finset.fold max ⊥ (fun p : Fin 16 => k3 m c (ix1 p)) Finset.univ
def quot : EReal := top m c * Ideal.ofBits .f32 0x3B124925#32

theorem pay4_top : k0_pay4 (hist m c) (ix2 0 0) = top m c := by
  rw [pay4]; simp only [hist_at]; rfl
theorem pay5_quot : k0_pay5 (hist m c) (ix2 0 0) = quot m c := by
  rw [pay5, pay4_top]; rfl

/-- The scale and its reciprocal. -/
def kscale : EReal := Ideal.ofBits .f32 (IntOp.shli .vector (IntOp.addi (eWord (top m c) (quot m c)) 127#32) 23#32)
def kinv : EReal := Ideal.ofBits .f32 (IntOp.shli .vector (IntOp.subi 127#32 (eWord (top m c) (quot m c))) 23#32)

theorem sc_at : sc m c (ix2 0 0) = kscale m c := by
  unfold sc; rw [scale0_read, pay4_top, pay5_quot]; rfl
theorem inv_at : inv0 (hist m c) (ix2 0 0) = kinv m c := by
  rw [inv0_read, pay4_top, pay5_quot]; rfl
theorem gs_at (j : Fin 2560) : gs m c (ix2 0 j) = k1 m c (ix1 j) * kinv m c := by
  unfold gs; rw [pay12, gain_at, inv_at]
theorem bs_at (j : Fin 2560) : bs m c (ix2 0 j) = k2 m c (ix1 j) * kinv m c := by
  unfold bs; rw [pay13, shift_at, inv_at]

/-! ## The results -/

/-- The block of a row, and the row's place in it. -/
def bn (r : Fin 49152) : Fin 96 := ⟨r.val / 512, by omega⟩
def bl (r : Fin 49152) : Fin 512 := ⟨r.val % 512, by omega⟩

theorem row_back (r : Fin 49152) : row (bn r) (lift (grp (bl r)) (loc (bl r))) = r := by
  apply Fin.ext
  show 512 * (r.val / 512) + (128 * (r.val % 512 / 128) + r.val % 512 % 128) = r.val
  omega

theorem line_back (r : Fin 49152) : line (sub (rows m c (bn r)) (grp (bl r))) (loc (bl r)) = krow m c r := by
  have e : line (sub (rows m c (bn r)) (grp (bl r))) (loc (bl r)) = krow m c (row (bn r) (lift (grp (bl r)) (loc (bl r)))) := rfl
  rw [e, row_back]

theorem G4_at (r : Fin 49152) (j : Fin 2560) : G4 m c (ix2 (n0 := 49152) (n1 := 2560) r j)
    = clip (nrm (krow m c r) (k1 m c (ix1 j) * kinv m c) (k2 m c (ix1 j) * kinv m c) j) := by
  have hp : pt4Of (ix2 (n0 := 49152) (n1 := 2560) r j) = (bn r).val := by
    show 1 * (r.val / 512 - 0) + 1 * (j.val / 2560 - 0) = r.val / 512; omega
  have hn : (bn r).val < cfg0.N := lt_of_lt_of_eq (bn r).isLt N_0.symm
  have hl : loc4Of (ix2 (n0 := 49152) (n1 := 2560) r j) = ix2 (n0 := 512) (n1 := 2560) (bl r) j := by
    funext a
    match a with
    | ⟨0, _⟩ => rfl
    | ⟨1, _⟩ => exact Fin.ext (Nat.mod_eq_of_lt j.isLt)
  unfold G4
  rw [dif_pos (by rw [hp]; exact hn), hl, fold0_congr m c _ _ _ (by omega) hp, ← outsAt0_sweep m c (bn r).val hn, (good m c _ hn).o4]
  show k0_pay21 (sub (rows m c (bn r)) (grp (bl r))) (gs m c) (bs m c) (ix2 (loc (bl r)) j) = _
  rw [pay21, line_back, gs_at, bs_at]

theorem G5_at (r : Fin 49152) (j : Fin 2560) : G5 m c (ix2 (n0 := 2560) (n1 := 49152) j r)
    = clip (nrm (krow m c r) (k1 m c (ix1 j) * kinv m c) (k2 m c (ix1 j) * kinv m c) j) := by
  have hp : pt5Of (ix2 (n0 := 2560) (n1 := 49152) j r) = (bn r).val := by
    show 96 * (j.val / 2560 - 0) + 1 * (r.val / 512 - 0) = r.val / 512; omega
  have hn : (bn r).val < cfg0.N := lt_of_lt_of_eq (bn r).isLt N_0.symm
  have hl : loc5Of (ix2 (n0 := 2560) (n1 := 49152) j r) = ix2 (n0 := 2560) (n1 := 512) j (bl r) := by
    funext a
    match a with
    | ⟨0, _⟩ => exact Fin.ext (Nat.mod_eq_of_lt j.isLt)
    | ⟨1, _⟩ => rfl
  unfold G5
  rw [dif_pos (by rw [hp]; exact hn), hl, fold0_congr m c _ _ _ (by omega) hp, ← outsAt0_sweep m c (bn r).val hn, (good m c _ hn).o5]
  show k0_pay22 (k0_pay21 (sub (rows m c (bn r)) (grp (bl r))) (gs m c) (bs m c)) (ix2 j (loc (bl r))) = _
  rw [pay22, pay21, line_back, gs_at, bs_at]

theorem last_lt : 95 < cfg0.N := lt_of_lt_of_eq (by decide) N_0.symm

theorem G6_at : G6 m c (ix2 (n0 := 1) (n1 := 1) 0 0) = kscale m c := by
  rw [G6_last, ← outsAt0_sweep m c 95 last_lt, (good m c 95 last_lt).o6, sc_at]

/-- The maximum, scaled back. -/
theorem G7_at : G7 m c (ix2 (n0 := 1) (n1 := 1) 0 0)
    = Finset.fold max ⊥ (fun p : Fin 49152 × Fin 2560 => val m c p.1 p.2) Finset.univ * kscale m c := by
  rw [G7_last, ← outsAt0_sweep m c 95 last_lt, last7 m c 94 last_lt rfl, pay3, sc_at]
  exact congrArg (· * kscale m c) (acc_max m c (by omega))

/-- Row `128 k + r` of block `n`. -/
def deep (n : Fin 96) (k : Fin 4) (r : Fin 128) : Fin 49152 := row n (lift k r)

theorem G8_at (n : Fin 96) (k : Fin 4) (r : Fin 128) :
    G8 m c (ix3 (n0 := 96) (n1 := 4) (n2 := 128) n k r) = mean (krow m c (deep n k r)) := by
  have hp : pt8Of (ix3 (n0 := 96) (n1 := 4) (n2 := 128) n k r) = n.val := by
    show 1 * (n.val / 1 - 0) + 1 * (k.val / 4 - 0) + 1 * (r.val / 128 - 0) = n.val; omega
  have hn : n.val < cfg0.N := lt_of_lt_of_eq n.isLt N_0.symm
  have h1 : loc8Of (ix3 (n0 := 96) (n1 := 4) (n2 := 128) n k r) 1 = k := Fin.ext (Nat.mod_eq_of_lt k.isLt)
  have h2 : loc8Of (ix3 (n0 := 96) (n1 := 4) (n2 := 128) n k r) 2 = r := Fin.ext (Nat.mod_eq_of_lt r.isLt)
  unfold G8
  rw [dif_pos (by rw [hp]; exact hn), fold0_congr m c _ _ _ (by omega) hp, ← outsAt0_sweep m c n.val hn, (good m c _ hn).o8]
  unfold blk8
  rw [h1, h2, pay23, pay16]
  rfl

theorem G9_at (n : Fin 96) (k : Fin 4) (r : Fin 128) :
    G9 m c (ix3 (n0 := 96) (n1 := 4) (n2 := 128) n k r) = rdev (krow m c (deep n k r)) := by
  have hp : pt9Of (ix3 (n0 := 96) (n1 := 4) (n2 := 128) n k r) = n.val := by
    show 1 * (n.val / 1 - 0) + 1 * (k.val / 4 - 0) + 1 * (r.val / 128 - 0) = n.val; omega
  have hn : n.val < cfg0.N := lt_of_lt_of_eq n.isLt N_0.symm
  have h1 : loc9Of (ix3 (n0 := 96) (n1 := 4) (n2 := 128) n k r) 1 = k := Fin.ext (Nat.mod_eq_of_lt k.isLt)
  have h2 : loc9Of (ix3 (n0 := 96) (n1 := 4) (n2 := 128) n k r) 2 = r := Fin.ext (Nat.mod_eq_of_lt r.isLt)
  unfold G9
  rw [dif_pos (by rw [hp]; exact hn), fold0_congr m c _ _ _ (by omega) hp, ← outsAt0_sweep m c n.val hn, (good m c _ hn).o9]
  unfold blk9
  rw [h1, h2, pay24, pay18]
  rfl

end Cert.KernelIdeal.Results

end
-- ==== Proof.Value.Plain.lean ====
/- The reference's six results as functions of its four arguments: one definition per line of the mathematics, and the
   proof that its host operations compute them. -/
module

public import proofs.«01_k».proof.Proof.Gen.ReferenceIdeal.Value

@[expose] public section

set_option maxRecDepth 16384

noncomputable section

namespace Cert.ReferenceIdeal.Plain

open Cert.ReferenceIdeal Cert.ReferenceIdeal.Gen
open Idealize.ShloMosaic Idealize.ShloMosaic.TcCoe

variable {F : FTy → Type} [FloatOps F]

/-- The rows, widened. -/
def xf (x : FVec F S24x2048x2560 .bf16) : FVec F S49152x2560 .f32 :=
  extf .f32 (shapeCast S49152x2560 x shapeCasts_S24x2048x2560_S49152x2560) bitsLt_bf16_f32
/-- A row's sum over its width. -/
def over (v : FVec F S49152x2560 .f32) : FVec F S49152 .f32 :=
  Host.divf (Host.reduceAdd v (constant S_ .f32 0x00000000#32) reducesTo_S49152x2560_S49152_d1 h_S_)
    (broadcastInDim S49152 ![] bcast_S_S49152 (constant S_ .f32 0x45200000#32))
/-- A value per row, along its row. -/
def along (v : FVec F S49152 .f32) : FVec F S49152x2560 .f32 :=
  broadcastInDim S49152x2560 ![0, 1] bcast_S49152x1_S49152x2560_0_1 (broadcastInDim S49152x1 ![0] bcast_S49152_S49152x1_0 v)
/-- A value per column, down its column. -/
def down (v : FVec F S2560 .f32) : FVec F S49152x2560 .f32 :=
  broadcastInDim S49152x2560 ![0, 1] bcast_S1x2560_S49152x2560_0_1 (broadcastInDim S1x2560 ![1] bcast_S2560_S1x2560_1 v)
def mu (x : FVec F S24x2048x2560 .bf16) : FVec F S49152 .f32 := over (xf x)
def xc (x : FVec F S24x2048x2560 .bf16) : FVec F S49152x2560 .f32 := subf (xf x) (along (mu x))
def rsigma (x : FVec F S24x2048x2560 .bf16) : FVec F S49152 .f32 :=
  Host.rsqrt (addf (over (mulf (xc x) (xc x))) (broadcastInDim S49152 ![] bcast_S_S49152 (constant S_ .f32 0x3727C5AC#32)))
def y (x : FVec F S24x2048x2560 .bf16) (g b : FVec F S2560 .f32) : FVec F S49152x2560 .f32 :=
  addf (mulf (mulf (xc x) (along (rsigma x))) (down g)) (down b)
def amax (x : FVec F S24x2048x2560 .bf16) (g b : FVec F S2560 .f32) : FVec F S_ .f32 :=
  Host.reduce FloatOps.maximumf (Host.absf (y x g b)) (constant S_ .f32 0xFF800000#32) reducesTo_S49152x2560_S_d0_1 h_S_
def a (h : FVec F S16 .f32) : FVec F S_ .f32 :=
  Host.reduce FloatOps.maximumf h (constant S_ .f32 0xFF800000#32) reducesTo_S16_S_d0 h_S_
def quo (h : FVec F S16 .f32) : FVec F S_ .f32 := mulf (a h) (constant S_ .f32 0x3B124925#32)
/-- The exponent. -/
def e (h : FVec F S16 .f32) : FVec F S_ .f32 :=
  select (cmpf .oeq (a h) (constant S_ .f32 0x00000000#32)) (constant S_ .f32 0x00000000#32)
    (addf (Host.floor (Host.divf (Host.log (Host.absf (quo h))) (Host.log (constant S_ .f32 0x40000000#32))))
      (constant S_ .f32 0x3F800000#32))
def scale (h : FVec F S16 .f32) : FVec F S_ .f32 := Host.powf (constant S_ .f32 0x40000000#32) (e h)
def inv (h : FVec F S16 .f32) : FVec F S_ .f32 := Host.powf (constant S_ .f32 0x40000000#32) (Host.negf (e h))
def rowClip (x : FVec F S24x2048x2560 .bf16) (g b : FVec F S2560 .f32) (h : FVec F S16 .f32) : FVec F S49152x2560 .f32 :=
  minimumf (broadcastInDim S49152x2560 ![] bcast_S_S49152x2560 (constant S_ .f32 0x43E00000#32))
    (maximumf (broadcastInDim S49152x2560 ![] bcast_S_S49152x2560 (constant S_ .f32 0xC3E00000#32))
      (mulf (y x g b) (broadcastInDim S49152x2560 ![] bcast_S_S49152x2560 (inv h))))
/-- A value per row of the rows, along the columns of the transposed array. -/
def alongT (v : FVec F S49152 .f32) : FVec F S2560x49152 .f32 :=
  broadcastInDim S2560x49152 ![0, 1] bcast_S1x49152_S2560x49152_0_1 (broadcastInDim S1x49152 ![1] bcast_S49152_S1x49152_1 v)
def downT (v : FVec F S2560 .f32) : FVec F S2560x49152 .f32 :=
  broadcastInDim S2560x49152 ![0, 1] bcast_S2560x1_S2560x49152_0_1 (broadcastInDim S2560x1 ![0] bcast_S2560_S2560x1_0 v)
/-- The same normalisation, of the transposed array. -/
def yT (x : FVec F S24x2048x2560 .bf16) (g b : FVec F S2560 .f32) : FVec F S2560x49152 .f32 :=
  addf (mulf (mulf (subf (transpose S2560x49152 [1, 0] (xf x) transposes_S49152x2560_S2560x49152_1_0) (alongT (mu x)))
    (alongT (rsigma x))) (downT g)) (downT b)
def colClip (x : FVec F S24x2048x2560 .bf16) (g b : FVec F S2560 .f32) (h : FVec F S16 .f32) : FVec F S2560x49152 .f32 :=
  minimumf (broadcastInDim S2560x49152 ![] bcast_S_S2560x49152 (constant S_ .f32 0x43E00000#32))
    (maximumf (broadcastInDim S2560x49152 ![] bcast_S_S2560x49152 (constant S_ .f32 0xC3E00000#32))
      (mulf (yT x g b) (broadcastInDim S2560x49152 ![] bcast_S_S2560x49152 (inv h))))

variable (m : (ℓ : Loc nD τ sig) → Buf (Elt F) ℓ) (c : Dev nD)

/-- The arguments. -/
def x0 : FVec F S24x2048x2560 .bf16 := m (c, main_arg0)
def x1 : FVec F S2560 .f32 := m (c, main_arg1)
def x2 : FVec F S2560 .f32 := m (c, main_arg2)
def x3 : FVec F S16 .f32 := m (c, main_arg3)

theorem V_v59 : V m c main_v59 = shapeCast S1x1 (scale (x3 m c)) shapeCasts_S_S1x1 := by
  entry_read
  rfl
theorem V_v60 : V m c main_v60 = shapeCast S1x1 (amax (x0 m c) (x1 m c) (x2 m c)) shapeCasts_S_S1x1 := by
  dsimp only [V]
  simp only [hostOps0, hostOps0_1, hostOps0_2, hostOps0_3, hostOps0_4, hostOps0_5, hostOps0_6,
    List.flatten_cons, List.flatten_nil, List.cons_append, List.nil_append, List.append_nil]
  after_results
  rfl
theorem V_v61 : V m c main_v61 = shapeCast S96x4x128 (mu (x0 m c)) shapeCasts_S49152_S96x4x128 := by
  entry_read
  rfl
theorem V_v62 : V m c main_v62 = shapeCast S96x4x128 (rsigma (x0 m c)) shapeCasts_S49152_S96x4x128 := by
  entry_read
  rfl
theorem V_v42 : V m c main_v42 = rowClip (x0 m c) (x1 m c) (x2 m c) (x3 m c) := by
  entry_read
  rfl
theorem V_v58 : V m c main_v58 = colClip (x0 m c) (x1 m c) (x2 m c) (x3 m c) := by
  entry_read
  rfl

end Cert.ReferenceIdeal.Plain

end
-- ==== Proof.Value.PlainReads.lean ====
/- The reference's results read at an index, as extended reals. -/
module

public import proofs.«01_k».proof.Proof.Value.Spec
public import proofs.«01_k».proof.Proof.Value.Plain
public import Idealize.ShloMosaic.Lib.Pointwise

@[expose] public section

set_option maxRecDepth 16384

noncomputable section

namespace Cert.ReferenceIdeal.PlainReads

open Cert.ReferenceIdeal Cert.ReferenceIdeal.Gen Cert.ReferenceIdeal.Plain Cert.Spec
open Idealize.ShloMosaic

variable (x : FVec Ideal S24x2048x2560 .bf16) (g b : FVec Ideal S2560 .f32) (h : FVec Ideal S16 .f32)

/-- A row of the reshaped array. -/
def line (r : Fin 49152) (j : Fin 2560) : EReal :=
  shapeCast S49152x2560 x shapeCasts_S24x2048x2560_S49152x2560 (ix2 r j)

theorem xf_at (r : Fin 49152) (j : Fin 2560) : xf x (ix2 r j) = line x r j := rfl

theorem over_at (v : FVec Ideal S49152x2560 .f32) (r : Fin 49152) :
    over v (ix1 r) = (∑ j, v (ix2 r j)) * ((1 / 2560 : ℝ) : EReal) := by
  pointwise [over]
  rw [Consts.width, Ideal.div_coe (by norm_num)]

theorem along_at (v : FVec Ideal S49152 .f32) (r : Fin 49152) (j : Fin 2560) : along v (ix2 r j) = v (ix1 r) := by
  pointwise [along]

theorem down_at (v : FVec Ideal S2560 .f32) (r : Fin 49152) (j : Fin 2560) : down v (ix2 r j) = v (ix1 j) := by
  pointwise [down]

theorem alongT_at (v : FVec Ideal S49152 .f32) (r : Fin 49152) (j : Fin 2560) : alongT v (ix2 j r) = v (ix1 r) := by
  pointwise [alongT]

theorem downT_at (v : FVec Ideal S2560 .f32) (r : Fin 49152) (j : Fin 2560) : downT v (ix2 j r) = v (ix1 j) := by
  pointwise [downT]

theorem mu_at (r : Fin 49152) : mu x (ix1 r) = mean (line x r) := by
  unfold mu
  rw [over_at]
  rfl

theorem xc_at (r : Fin 49152) (j : Fin 2560) : xc x (ix2 r j) = cen (line x r) j := by
  show xf x (ix2 r j) - along (mu x) (ix2 r j) = _
  rw [along_at, mu_at]
  rfl

theorem rsigma_at (r : Fin 49152) : rsigma x (ix1 r) = rdev (line x r) := by
  show Ideal.rsqrt (over (mulf (xc x) (xc x)) (ix1 r) + Ideal.ofBits .f32 0x3727C5AC#32) = _
  rw [over_at]
  show Ideal.rsqrt ((∑ j, xc x (ix2 r j) * xc x (ix2 r j)) * ((1 / 2560 : ℝ) : EReal) + _) = _
  simp only [xc_at]
  rfl

theorem y_at (r : Fin 49152) (j : Fin 2560) : y x g b (ix2 r j) = nrm (line x r) (g (ix1 j)) (b (ix1 j)) j := by
  show xc x (ix2 r j) * along (rsigma x) (ix2 r j) * down g (ix2 r j) + down b (ix2 r j) = _
  rw [along_at, down_at, down_at, xc_at, rsigma_at]
  rfl

theorem yT_at (r : Fin 49152) (j : Fin 2560) : yT x g b (ix2 j r) = nrm (line x r) (g (ix1 j)) (b (ix1 j)) j := by
  have e : transpose S2560x49152 [1, 0] (xf x) transposes_S49152x2560_S2560x49152_1_0 (ix2 j r) = line x r j := by
    pointwise []
    rfl
  show (transpose S2560x49152 [1, 0] (xf x) transposes_S49152x2560_S2560x49152_1_0 (ix2 j r) - alongT (mu x) (ix2 j r))
    * alongT (rsigma x) (ix2 j r) * downT g (ix2 j r) + downT b (ix2 j r) = _
  rw [alongT_at, alongT_at, downT_at, downT_at, e, mu_at, rsigma_at]
  rfl

theorem rowClip_at (r : Fin 49152) (j : Fin 2560) :
    rowClip x g b h (ix2 r j) = clip (nrm (line x r) (g (ix1 j)) (b (ix1 j)) j * inv h ix0) := by
  have e : broadcastInDim S49152x2560 ![] bcast_S_S49152x2560 (inv h) (ix2 r j) = inv h ix0 := by
    pointwise []
  show min _ (max _ (y x g b (ix2 r j) * broadcastInDim S49152x2560 ![] bcast_S_S49152x2560 (inv h) (ix2 r j))) = _
  rw [e, y_at]
  rfl

theorem colClip_at (r : Fin 49152) (j : Fin 2560) :
    colClip x g b h (ix2 j r) = clip (nrm (line x r) (g (ix1 j)) (b (ix1 j)) j * inv h ix0) := by
  have e : broadcastInDim S2560x49152 ![] bcast_S_S2560x49152 (inv h) (ix2 j r) = inv h ix0 := by
    pointwise []
  show min _ (max _ (yT x g b (ix2 j r) * broadcastInDim S2560x49152 ![] bcast_S_S2560x49152 (inv h) (ix2 j r))) = _
  rw [e, yT_at]
  rfl

theorem amax_at : amax x g b ix0 = Finset.fold max ⊥ (fun p : Fin 49152 × Fin 2560 =>
    mag (nrm (line x p.1) (g (ix1 p.2)) (b (ix1 p.2)) p.2)) Finset.univ := by
  pointwise [amax]
  simp only [y_at]
  rw [Consts.bot]
  rfl

theorem a_at : a h ix0 = Finset.fold max ⊥ (fun p : Fin 16 => h (ix1 p)) Finset.univ := by
  pointwise [a]
  rw [Consts.bot]

theorem quo_at : quo h ix0 = a h ix0 * Ideal.ofBits .f32 0x3B124925#32 := rfl

end Cert.ReferenceIdeal.PlainReads

end
-- ==== Proof.Value.Powers.lean ====
/- The reference's two powers are the kernel's two words, where the precondition holds; and what the precondition says. -/
module

public import proofs.«01_k».proof.Proof.Value.PlainReads
public import proofs.«01_k».proof.Proof.Value.Exponent
public import proofs.«01_k».proof.Pre_in_range

@[expose] public section

noncomputable section

namespace Cert.Powers

open Cert.ReferenceIdeal Cert.ReferenceIdeal.Gen Cert.ReferenceIdeal.Plain Cert.ReferenceIdeal.PlainReads
open Idealize.ShloMosaic Cert.KernelIdeal.Exponent

variable (h : FVec Ideal S16 .f32)

theorem e_at : e h ix0 = refE (a h ix0) (quo h ix0) := by
  have z : (cmpf .oeq (a h) (constant S_ .f32 0x00000000#32) ix0 = 1#1) ↔ a h ix0 = 0 := by
    show (Ideal.cmp .oeq (a h ix0) (Ideal.ofBits .f32 0x00000000#32) = 1#1) ↔ _
    rw [Consts.zero]
    by_cases w : a h ix0 = 0 <;> simp [Ideal.cmp, w]
  unfold refE
  show (if cmpf .oeq (a h) (constant S_ .f32 0x00000000#32) ix0 = 1#1 then Ideal.ofBits .f32 0x00000000#32
    else Ideal.liftRound Int.floor (Ideal.div (Ideal.log (FloatOps.absf (F := Ideal) (φ := .f32) (quo h ix0)))
      (Ideal.log (Ideal.ofBits .f32 0x40000000#32))) + Ideal.ofBits .f32 0x3F800000#32) = _
  rw [Consts.zero, Consts.one, Consts.two]
  by_cases w : a h ix0 = 0
  · rw [if_pos (z.mpr w), if_pos w]
  · rw [if_neg (fun q => w (z.mp q)), if_neg w]

theorem pow_two (E : ℤ) : Ideal.pow ((2 : ℝ) : EReal) ((E : ℝ) : EReal) = (((2 : ℝ) ^ E : ℝ) : EReal) := by
  show ((Real.rpow 2 (E : ℝ) : ℝ) : EReal) = _
  rw [show Real.rpow 2 (E : ℝ) = (2 : ℝ) ^ E from Real.rpow_intCast 2 E]

theorem scale_at (E : ℤ) (hE : e h ix0 = ((E : ℝ) : EReal)) : scale h ix0 = (((2 : ℝ) ^ E : ℝ) : EReal) := by
  show Ideal.pow (Ideal.ofBits .f32 0x40000000#32) (e h ix0) = _
  rw [Consts.two, hE, pow_two]

theorem inv_at (E : ℤ) (hE : e h ix0 = ((E : ℝ) : EReal)) : inv h ix0 = (((2 : ℝ) ^ (-E) : ℝ) : EReal) := by
  show Ideal.pow (Ideal.ofBits .f32 0x40000000#32) (-(e h ix0)) = _
  rw [Consts.two, hE, ← pow_two]
  push_cast
  rfl

/-- The precondition's facts. -/
theorem facts : Cert.Pre_in_range.Facts := ⟨by decide, by decide⟩

/-- The precondition bounds the quotient of the history's maximum. -/
theorem of_pre [Cert.Pre_in_range.Facts] (x : FVec Ideal S24x2048x2560 .bf16) (g b : FVec Ideal S2560 .f32)
    (hp : Cert.Pre_in_range.fn (F := Ideal) x g b h ix0 = 1#1) : InRange (a h ix0) (quo h ix0) := by
  have hp' : IntOp.ori (Ideal.cmp .oeq (a h ix0) (Ideal.ofBits .f32 0x00000000#32))
      (IntOp.andi (Ideal.cmp .oge (FloatOps.absf (F := Ideal) (φ := .f32) (quo h ix0)) (Ideal.ofBits .f32 0x00400000#32))
        (Ideal.cmp .olt (FloatOps.absf (F := Ideal) (φ := .f32) (quo h ix0)) (Ideal.ofBits .f32 0x7E800000#32))) = 1#1 := hp
  rw [Consts.zero, Consts.least, Consts.most] at hp'
  unfold InRange
  by_cases w : a h ix0 = 0
  · exact Or.inl w
  · right
    generalize FloatOps.absf (F := Ideal) (φ := .f32) (quo h ix0) = t at hp' ⊢
    by_cases w1 : (((2 : ℝ) ^ (-127 : ℤ) : ℝ) : EReal) ≤ t
    · by_cases w2 : t < (((2 : ℝ) ^ (126 : ℤ) : ℝ) : EReal)
      · exact ⟨w1, w2⟩
      · exfalso; revert hp'; simp only [Ideal.cmp, w, w1, w2, IntOp.ori, IntOp.andi]; decide
    · exfalso; revert hp'; simp only [Ideal.cmp, w, w1, IntOp.ori, IntOp.andi]; simp
end Cert.Powers

end
-- ==== Proof.Value.RefRun.lean ====
/- What the reference leaves: its two transposed-pair results are the two clipped arrays, its four others are host values. -/
module

public import proofs.«01_k».proof.Proof.Gen.ReferenceIdeal.Value

@[expose] public section

-- membership in a rectangle of production extents recurses once per coordinate of the long axes
set_option maxRecDepth 16384

noncomputable section

namespace Cert.ReferenceIdeal.RefRun

open Cert.ReferenceIdeal Cert.ReferenceIdeal.Gen Cert.ReferenceIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The row-major fp8 result: each element of the clipped array rounded to fp8. -/
def G2 (c : Dev nD) : Vec F S49152x2560 .fp8e4m3 := fun i =>
  FloatOps.truncf .fp8e4m3 bitsLt_fp8e4m3_f32 ((V m c main_v42 : Vec F S49152x2560 .f32) i)

/-- The transposed fp8 result. -/
def G3 (c : Dev nD) : Vec F S2560x49152 .fp8e4m3 := fun i =>
  FloatOps.truncf .fp8e4m3 bitsLt_fp8e4m3_f32 ((V m c main_v58 : Vec F S2560x49152 .f32) i)

/-- Every block of the one grid point starts at the origin. -/
theorem origin : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

theorem flushed2_eq (c : Dev nD) (t : Fin cfg0.N) :
    (dats m 0 c).flushed 2 t = ((cfg0.win 2).blk t).view.read (Elt F) (G2 m c) := by
  obtain ⟨a0, a1, b0, b1, c0, c1, d0, d1⟩ := origin t
  rw [flushed2]
  funext y
  show out0_2 (iblk m c 0 t) (iblk m c 1 t) ((cfg0.win 2).xinj (grid0.coords t) y) = G2 m c (((cfg0.win 2).blk t).view.emb y)
  rw [out0_2, canon2_eq]
  refine congrArg (fun i => FloatOps.truncf .fp8e4m3 bitsLt_fp8e4m3_f32 ((V m c main_v42 : Vec F S49152x2560 .f32) i)) (funext fun a => Fin.ext ?_)
  match a with
  | ⟨0, _⟩ => show win0_0.index t (0 : Fin 2) * 49152 + 1 * (0 + 1 * (y 0).val) = win0_2.index t (0 : Fin 2) * 49152 + 1 * (y 0).val; omega
  | ⟨1, _⟩ => show win0_0.index t (1 : Fin 2) * 2560 + 1 * (0 + 1 * (y 1).val) = win0_2.index t (1 : Fin 2) * 2560 + 1 * (y 1).val; omega

theorem flushed3_eq (c : Dev nD) (t : Fin cfg0.N) :
    (dats m 0 c).flushed 3 t = ((cfg0.win 3).blk t).view.read (Elt F) (G3 m c) := by
  obtain ⟨a0, a1, b0, b1, c0, c1, d0, d1⟩ := origin t
  rw [flushed3]
  funext y
  show out0_3 (iblk m c 0 t) (iblk m c 1 t) ((cfg0.win 3).xinj (grid0.coords t) y) = G3 m c (((cfg0.win 3).blk t).view.emb y)
  rw [out0_3, canon3_eq]
  refine congrArg (fun i => FloatOps.truncf .fp8e4m3 bitsLt_fp8e4m3_f32 ((V m c main_v58 : Vec F S2560x49152 .f32) i)) (funext fun a => Fin.ext ?_)
  match a with
  | ⟨0, _⟩ => show win0_1.index t (0 : Fin 2) * 2560 + 1 * (0 + 1 * (y 0).val) = win0_3.index t (0 : Fin 2) * 2560 + 1 * (y 0).val; omega
  | ⟨1, _⟩ => show win0_1.index t (1 : Fin 2) * 49152 + 1 * (0 + 1 * (y 1).val) = win0_3.index t (1 : Fin 2) * 49152 + 1 * (y 1).val; omega

theorem mem_blk2 (t : Fin cfg0.N) (i : S49152x2560.Idx) :
    i ∈ ((cfg0.win 2).blk t).view.set ↔ ∀ a : Fin 2, win0_2.index t a * S49152x2560.size a ≤ (i a).val ∧ (i a).val < win0_2.index t a * S49152x2560.size a + S49152x2560.size a := by
  show i ∈ ((View.whole main_v63_0).slice (win0_2.rect t)).set ↔ _
  rw [View.set_slice_whole, Rect.mem_set_unit]
  exact Iff.rfl

theorem mem_blk3 (t : Fin cfg0.N) (i : S2560x49152.Idx) :
    i ∈ ((cfg0.win 3).blk t).view.set ↔ ∀ a : Fin 2, win0_3.index t a * S2560x49152.size a ≤ (i a).val ∧ (i a).val < win0_3.index t a * S2560x49152.size a + S2560x49152.size a := by
  show i ∈ ((View.whole main_v63_1).slice (win0_3.rect t)).set ↔ _
  rw [View.set_slice_whole, Rect.mem_set_unit]
  exact Iff.rfl

theorem flushes : ∃ t : Fin cfg0.N, (cfg0.win 2).flush t = true ∧ (cfg0.win 3).flush t = true :=
  (by decide +kernel : ∃ t : Fin grid0.N, win0_2.flush t = true ∧ win0_3.flush t = true)

theorem final2 (c : Dev nD) : (dats m 0 c).arrAt 2 cfg0.N = G2 m c :=
  (dats m 0 c).arrAt_eq_of_cover 2 _ (fun t _ => flushed2_eq m c t) (fun i => by
    obtain ⟨t, hf, _⟩ := flushes
    obtain ⟨a0, a1, b0, b1, c0, c1, d0, d1⟩ := origin t
    have h0 : (i 0).val < 49152 := (i 0).isLt
    have h1 : (i 1).val < 2560 := (i 1).isLt
    refine ⟨t, hf, (mem_blk2 t i).2 fun a => ?_⟩
    match a with
    | ⟨0, _⟩ => show win0_2.index t (0 : Fin 2) * 49152 ≤ (i 0).val ∧ (i 0).val < win0_2.index t (0 : Fin 2) * 49152 + 49152; omega
    | ⟨1, _⟩ => show win0_2.index t (1 : Fin 2) * 2560 ≤ (i 1).val ∧ (i 1).val < win0_2.index t (1 : Fin 2) * 2560 + 2560; omega)

theorem final3 (c : Dev nD) : (dats m 0 c).arrAt 3 cfg0.N = G3 m c :=
  (dats m 0 c).arrAt_eq_of_cover 3 _ (fun t _ => flushed3_eq m c t) (fun i => by
    obtain ⟨t, _, hf⟩ := flushes
    obtain ⟨a0, a1, b0, b1, c0, c1, d0, d1⟩ := origin t
    have h0 : (i 0).val < 2560 := (i 0).isLt
    have h1 : (i 1).val < 49152 := (i 1).isLt
    refine ⟨t, hf, (mem_blk3 t i).2 fun a => ?_⟩
    match a with
    | ⟨0, _⟩ => show win0_3.index t (0 : Fin 2) * 2560 ≤ (i 0).val ∧ (i 0).val < win0_3.index t (0 : Fin 2) * 2560 + 2560; omega
    | ⟨1, _⟩ => show win0_3.index t (1 : Fin 2) * 49152 ≤ (i 1).val ∧ (i 1).val < win0_3.index t (1 : Fin 2) * 49152 + 49152; omega)

/-- The run leaves the buffers no window stages as the region found them. -/
theorem kept {r : PUnit × MemSt nD τ sig (Elt F)} (h : Pipeline.FramePost cfgs (dats m) 0 (V m) r) (c : Dev nD) :
    r.2.mem ((c : Thread nD τ).loc main_v59) = V m c main_v59 ∧ r.2.mem ((c : Thread nD τ).loc main_v60) = V m c main_v60
    ∧ r.2.mem ((c : Thread nD τ).loc main_v61) = V m c main_v61 ∧ r.2.mem ((c : Thread nD τ).loc main_v62) = V m c main_v62 :=
  ⟨(h c).2 main_v59 (Pipeline.mem_restRefs_of main_v59 (by decide) (by decide)),
   (h c).2 main_v60 (Pipeline.mem_restRefs_of main_v60 (by decide) (by decide)),
   (h c).2 main_v61 (Pipeline.mem_restRefs_of main_v61 (by decide) (by decide)),
   (h c).2 main_v62 (Pipeline.mem_restRefs_of main_v62 (by decide) (by decide))⟩

/-- The reference's run: every result, and the arguments unchanged. -/
theorem run : θ_run defs (onTc (τ := τ) (main (F := F))) ⟨m, fun _ => 0, ρ⟩ fun r => ∀ c : Dev nD,
      r.2.mem ((c : Thread nD τ).loc main_v63_0) = G2 m c
      ∧ r.2.mem ((c : Thread nD τ).loc main_v63_1) = G3 m c
      ∧ r.2.mem ((c : Thread nD τ).loc main_v59) = V m c main_v59
      ∧ r.2.mem ((c : Thread nD τ).loc main_v60) = V m c main_v60
      ∧ r.2.mem ((c : Thread nD τ).loc main_v61) = V m c main_v61
      ∧ r.2.mem ((c : Thread nD τ).loc main_v62) = V m c main_v62
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans (final2 m c), (post3 m r h c).trans (final3 m c),
      (kept m h c).1, (kept m h c).2.1, (kept m h c).2.2.1, (kept m h c).2.2.2,
      kept_main_arg0 m r h c, kept_main_arg1 m r h c, kept_main_arg2 m r h c, kept_main_arg3 m r h c⟩)
    (run_main m ρ)

end Cert.ReferenceIdeal.RefRun

end
-- ==== Proof.Value.Algebraic.lean ====
/- The two idealized programs' results agree: each of the kernel's six arrays is the reference's of the same arguments. -/
module

public import proofs.«01_k».proof.Proof.Value.Results
public import proofs.«01_k».proof.Proof.Value.Powers
public import proofs.«01_k».proof.Proof.Value.RefRun
public import proofs.«01_k».proof.Proof.Run.Printed
public import proofs.«01_k».proof.Defs

@[expose] public section

set_option maxRecDepth 16384

noncomputable section

namespace Cert.Algebraic

open Cert.KernelIdeal Cert.KernelIdeal.Run Cert.KernelIdeal.State
open Cert.KernelIdeal.Results Cert.KernelIdeal.Amax Cert.KernelIdeal.Exponent Cert.Spec
open Cert.ReferenceIdeal (Plain.mu Plain.rsigma Plain.amax Plain.scale Plain.rowClip Plain.colClip)
open Idealize.ShloMosaic Idealize.ShloMosaic.TcCoe Idealize.SL.Sem

/-- A power of two's inverse undoes it. -/
theorem cancel (x : EReal) (E : ℤ) : x * (((2 : ℝ) ^ (-E) : ℝ) : EReal) * (((2 : ℝ) ^ E : ℝ) : EReal) = x := by
  rw [mul_assoc, ← EReal.coe_mul, ← zpow_add₀ (by norm_num : (2 : ℝ) ≠ 0), neg_add_cancel, zpow_zero, EReal.coe_one, mul_one]

variable (m : (ℓ : Loc nD τ sig) → Buf (Elt Ideal) ℓ) (c : Dev nD)

theorem krow_eq (r : Fin 49152) : krow m c r = Cert.ReferenceIdeal.PlainReads.line (k0 m c) r := by
  funext j
  unfold krow
  rw [xs_eq]
  rfl

theorem top_eq : top m c = Cert.ReferenceIdeal.Plain.a (k3 m c) ix0 := (Cert.ReferenceIdeal.PlainReads.a_at _).symm
theorem quot_eq : quot m c = Cert.ReferenceIdeal.Plain.quo (k3 m c) ix0 := by
  unfold quot
  rw [top_eq]
  rfl

/-- Scale and reciprocal, on both sides, are a power of two and its inverse. -/
theorem scales (h : InRange (top m c) (quot m c)) : ∃ E : ℤ,
    kscale m c = (((2 : ℝ) ^ E : ℝ) : EReal) ∧ kinv m c = (((2 : ℝ) ^ (-E) : ℝ) : EReal)
    ∧ Cert.ReferenceIdeal.Plain.scale (k3 m c) ix0 = (((2 : ℝ) ^ E : ℝ) : EReal)
    ∧ Cert.ReferenceIdeal.Plain.inv (k3 m c) ix0 = (((2 : ℝ) ^ (-E) : ℝ) : EReal) := by
  obtain ⟨E, h1, h2, h3⟩ := powers _ _ h
  rw [top_eq, quot_eq, ← Cert.Powers.e_at] at h1
  exact ⟨E, h2, h3, Cert.Powers.scale_at _ E h1, Cert.Powers.inv_at _ E h1⟩

variable (h : InRange (top m c) (quot m c))
include h

theorem eq4 : G4 m c = Plain.rowClip (k0 m c) (k1 m c) (k2 m c) (k3 m c) := by
  obtain ⟨E, _, hi, _, hj⟩ := scales m c h
  refine funext fun i => ?_
  obtain ⟨r, j, rfl⟩ : ∃ (r : Fin 49152) (j : Fin 2560), i = ix2 r j := ⟨_, _, eq_ix2 i⟩
  refine (G4_at m c r j).trans ((Cert.ReferenceIdeal.PlainReads.rowClip_at _ _ _ _ r j).trans ?_).symm
  rw [hj, hi, nrm_scaled _ _ _ _ _ (by positivity), krow_eq]

theorem eq5 : G5 m c = Plain.colClip (k0 m c) (k1 m c) (k2 m c) (k3 m c) := by
  obtain ⟨E, _, hi, _, hj⟩ := scales m c h
  refine funext fun i => ?_
  obtain ⟨j, r, rfl⟩ : ∃ (j : Fin 2560) (r : Fin 49152), i = ix2 j r := ⟨_, _, eq_ix2 i⟩
  refine (G5_at m c r j).trans ((Cert.ReferenceIdeal.PlainReads.colClip_at _ _ _ _ r j).trans ?_).symm
  rw [hj, hi, nrm_scaled _ _ _ _ _ (by positivity), krow_eq]

theorem eq6 : G6 m c = shapeCast S1x1 (Plain.scale (k3 m c)) Cert.ReferenceIdeal.Gen.shapeCasts_S_S1x1 := by
  obtain ⟨E, hs, _, ht, _⟩ := scales m c h
  refine funext fun i => ?_
  obtain rfl : i = ix2 0 0 := (eq_ix2 i).trans (by congr 1 <;> exact Subsingleton.elim _ _)
  refine (G6_at m c).trans ?_
  have e : shapeCast S1x1 (Plain.scale (k3 m c)) Cert.ReferenceIdeal.Gen.shapeCasts_S_S1x1 (ix2 0 0) = Plain.scale (k3 m c) ix0 := by
    pointwise []
  exact hs.trans (e.trans ht).symm

theorem eq7 : G7 m c = shapeCast S1x1 (Plain.amax (k0 m c) (k1 m c) (k2 m c)) Cert.ReferenceIdeal.Gen.shapeCasts_S_S1x1 := by
  obtain ⟨E, hs, hi, _, _⟩ := scales m c h
  refine funext fun i => ?_
  obtain rfl : i = ix2 0 0 := (eq_ix2 i).trans (by congr 1 <;> exact Subsingleton.elim _ _)
  refine (G7_at m c).trans ?_
  have e : shapeCast S1x1 (Plain.amax (k0 m c) (k1 m c) (k2 m c)) Cert.ReferenceIdeal.Gen.shapeCasts_S_S1x1 (ix2 0 0)
      = Plain.amax (k0 m c) (k1 m c) (k2 m c) ix0 := by
    pointwise []
  refine Eq.trans ?_ (e.trans (Cert.ReferenceIdeal.PlainReads.amax_at _ _ _)).symm
  have v : ∀ (r : Fin 49152) (j : Fin 2560), val m c r j
      = mag (nrm (Cert.ReferenceIdeal.PlainReads.line (k0 m c) r) (k1 m c (ix1 j)) (k2 m c (ix1 j)) j) * (((2 : ℝ) ^ (-E) : ℝ) : EReal) := by
    intro r j
    unfold val
    rw [gs_at, bs_at, hi, nrm_scaled _ _ _ _ _ (by positivity), mag_scaled _ _ (by positivity), krow_eq]
  simp only [v]
  rw [fold_scaled (fun p : Fin 49152 × Fin 2560 =>
      mag (nrm (Cert.ReferenceIdeal.PlainReads.line (k0 m c) p.1) (k1 m c (ix1 p.2)) (k2 m c (ix1 p.2)) p.2)) _ (by positivity),
    hs]
  exact cancel _ E

omit h

/-- A value per row, laid out by blocks and groups of rows. -/
theorem deep_at (v : FVec Ideal Cert.ReferenceIdeal.S49152 .f32) (n : Fin 96) (k : Fin 4) (r : Fin 128) :
    shapeCast S96x4x128 v Cert.ReferenceIdeal.Gen.shapeCasts_S49152_S96x4x128 (ix3 n k r) = v (ix1 (deep n k r)) := by
  refine shapeCast_apply _ _ _ (ix1 (deep n k r)) ?_
  rw [Shape.rowMajor_val_one, Shape.rowMajor_val_three]
  show 512 * n.val + (128 * k.val + r.val) = (n.val * 4 + k.val) * 128 + r.val
  omega

theorem eq8 : G8 m c = shapeCast S96x4x128 (Plain.mu (k0 m c)) Cert.ReferenceIdeal.Gen.shapeCasts_S49152_S96x4x128 := by
  refine funext fun i => ?_
  obtain ⟨n, k, r, rfl⟩ : ∃ (n : Fin 96) (k : Fin 4) (r : Fin 128), i = ix3 n k r := ⟨_, _, _, eq_ix3 i⟩
  refine (G8_at m c n k r).trans (Eq.trans ?_ ((deep_at _ n k r).trans (Cert.ReferenceIdeal.PlainReads.mu_at _ _)).symm)
  rw [krow_eq]

theorem eq9 : G9 m c = shapeCast S96x4x128 (Plain.rsigma (k0 m c)) Cert.ReferenceIdeal.Gen.shapeCasts_S49152_S96x4x128 := by
  refine funext fun i => ?_
  obtain ⟨n, k, r, rfl⟩ : ∃ (n : Fin 96) (k : Fin 4) (r : Fin 128), i = ix3 n k r := ⟨_, _, _, eq_ix3 i⟩
  refine (G9_at m c n k r).trans (Eq.trans ?_ ((deep_at _ n k r).trans (Cert.ReferenceIdeal.PlainReads.rsigma_at _ _)).symm)
  rw [krow_eq]

/-- The results are all equal where the precondition holds. -/
theorem claim : @Cert.algebraic_KernelIdeal_ReferenceIdeal_pre_in_range Cert.KernelIdeal.Gen.facts Cert.ReferenceIdeal.Gen.facts
    Cert.Powers.facts := by
  intro m g m' g' hpre hargs
  have hin : ∀ c, InRange (top m c) (quot m c) := fun c => by
    rw [top_eq, quot_eq]
    exact @Cert.Powers.of_pre (k3 m c) Cert.Powers.facts (k0 m c) (k1 m c) (k2 m c) (congrFun (hpre c) ix0)
  refine ⟨G4 m, G5 m, G6 m, G7 m, G8 m, G9 m, Run.run m g, ?_⟩
  refine (θ_run _ _ _).mono (fun r h c => ?_) (Cert.ReferenceIdeal.RefRun.run m' g')
  obtain ⟨h0, h1, h2, h3, h4, h5, ha⟩ := h c
  obtain ⟨b0, b1, b2, b3⟩ := hargs c
  have a0 : Cert.ReferenceIdeal.Plain.x0 m' c = k0 m c := b0
  have a1 : Cert.ReferenceIdeal.Plain.x1 m' c = k1 m c := b1
  have a2 : Cert.ReferenceIdeal.Plain.x2 m' c = k2 m c := b2
  have a3 : Cert.ReferenceIdeal.Plain.x3 m' c = k3 m c := b3
  refine ⟨h0.trans ?_, h1.trans ?_, h2.trans ?_, h3.trans ?_, h4.trans ?_, h5.trans ?_, ha⟩
  · rw [eq4 m c (hin c), ← a0, ← a1, ← a2, ← a3, ← Cert.ReferenceIdeal.Plain.V_v42]; rfl
  · rw [eq5 m c (hin c), ← a0, ← a1, ← a2, ← a3, ← Cert.ReferenceIdeal.Plain.V_v58]; rfl
  · rw [eq6 m c (hin c), Cert.ReferenceIdeal.Plain.V_v59, a3]
  · rw [eq7 m c (hin c), Cert.ReferenceIdeal.Plain.V_v60, a0, a1, a2]
  · rw [eq8 m c, Cert.ReferenceIdeal.Plain.V_v61, a0]
  · rw [eq9 m c, Cert.ReferenceIdeal.Plain.V_v62, a0]

end Cert.Algebraic

end
-- ==== Proof.lean ====
module

public import proofs.«01_k».proof.Defs
public import proofs.«01_k».proof.Proof.Run.Printed
public import proofs.«01_k».proof.Proof.Gen.ReferenceIdeal.Value
public import proofs.«01_k».proof.Proof.Gen.ReferenceIdeal.Frame
public import proofs.«01_k».proof.Proof.Run.Arrays
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Powers.facts,
    Cert.Kernel.Run.quiescent,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    IdealRules.named_const.statement Cert.KernelIdeal.κ "inv_d" .f32 0x39CCCCCD#32 ((1 / 2560 : ℝ) : EReal) rfl,
    Cert.Algebraic.claim⟩

end Cert.Proof

end
